-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_router_inputs [hPre_finite_router_inputs : Cert.Pre_finite_router_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_router_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_router_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_router_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_router_inputs [hPre_finite_router_inputs : Cert.Pre_finite_router_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_router_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_router_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_router_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_router_inputs [hKernelIdeal : Cert.KernelIdeal.Facts] [hPre_finite_router_inputs : Cert.Pre_finite_router_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_router_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_router_inputs [hReferenceIdeal : Cert.ReferenceIdeal.Facts] [hPre_finite_router_inputs : Cert.Pre_finite_router_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_router_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_router_inputs [hKernelIdeal : Cert.KernelIdeal.Facts] [hReferenceIdeal : Cert.ReferenceIdeal.Facts] [hPre_finite_router_inputs : Cert.Pre_finite_router_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_router_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v248) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_v16) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_router_inputs : Cert.Pre_finite_router_inputs.Facts),
    quiescent_Kernel (hKernel := hKernel)
    ∧ quiescent_KernelIdeal (hKernelIdeal := hKernelIdeal)
    ∧ quiescent_KernelIdeal_pre_finite_router_inputs (hKernelIdeal := hKernelIdeal) (hPre_finite_router_inputs := hPre_finite_router_inputs)
    ∧ quiescent_ReferenceIdeal (hReferenceIdeal := hReferenceIdeal)
    ∧ quiescent_ReferenceIdeal_pre_finite_router_inputs (hReferenceIdeal := hReferenceIdeal) (hPre_finite_router_inputs := hPre_finite_router_inputs)
    ∧ preserves_Kernel_KernelIdeal
    ∧ algebraic_KernelIdeal_ReferenceIdeal_pre_finite_router_inputs (hKernelIdeal := hKernelIdeal) (hReferenceIdeal := hReferenceIdeal) (hPre_finite_router_inputs := hPre_finite_router_inputs)
-- ==== Pre_finite_router_inputs.lean ====
abbrev S2x2048x2048 : Shape := ⟨3, ![2, 2048, 2048]⟩
abbrev S16x2048 : Shape := ⟨2, ![16, 2048]⟩
abbrev S16 : Shape := ⟨1, ![16]⟩
abbrev S16x2048x2048 : Shape := ⟨3, ![16, 2048, 2048]⟩
abbrev S_ : Shape := ⟨0, ![]⟩

class Facts : Prop where
  bcast_S_S2x2048x2048 : S_.BroadcastsInDim S2x2048x2048 (![] : Fin 0 → Fin S2x2048x2048.rank)
  bcast_S_S16x2048 : S_.BroadcastsInDim S16x2048 (![] : Fin 0 → Fin S16x2048.rank)
  bcast_S_S16 : S_.BroadcastsInDim S16 (![] : Fin 0 → Fin S16.rank)

variable [Facts]

def fn {F : FTy → Type} [FloatOps F] (main_arg0 : FVec F S2x2048x2048 .f32) (main_arg1 : FVec F S16x2048 .f32) (main_arg2 : FVec F S16 .f32) (main_arg3 : FVec F S16x2048x2048 .f32) (main_arg4 : FVec F S16x2048 .f32) : IVec S2x2048x2048 1 × IVec S16x2048 1 × IVec S16 1 :=
  let main_v0 : FVec F S2x2048x2048 .f32 := Host.absf main_arg0
  let main_cst : FVec F S_ .f32 := constant S_ .f32 0x7F800000#32
  let main_v1 : FVec F S2x2048x2048 .f32 := broadcastInDim S2x2048x2048 ![] bcast_S_S2x2048x2048 main_cst
  let main_v2 : IVec S2x2048x2048 1 := cmpf .olt main_v0 main_v1
  let main_v3 : FVec F S16x2048 .f32 := Host.absf main_arg1
  let main_cst_0 : FVec F S_ .f32 := constant S_ .f32 0x7F800000#32
  let main_v4 : FVec F S16x2048 .f32 := broadcastInDim S16x2048 ![] bcast_S_S16x2048 main_cst_0
  let main_v5 : IVec S16x2048 1 := cmpf .olt main_v3 main_v4
  let main_v6 : FVec F S16 .f32 := Host.absf main_arg2
  let main_cst_1 : FVec F S_ .f32 := constant S_ .f32 0x7F800000#32
  let main_v7 : FVec F S16 .f32 := broadcastInDim S16 ![] bcast_S_S16 main_cst_1
  let main_v8 : IVec S16 1 := cmpf .olt main_v6 main_v7
  (main_v2, main_v5, main_v8)
-- ==== Kernel.lean ====
abbrev S2x2048x2048 : Shape := ⟨3, ![2, 2048, 2048]⟩
abbrev S16x2048 : Shape := ⟨2, ![16, 2048]⟩
abbrev S16 : Shape := ⟨1, ![16]⟩
abbrev S16x2048x2048 : Shape := ⟨3, ![16, 2048, 2048]⟩
abbrev S4096x2048 : Shape := ⟨2, ![4096, 2048]⟩
abbrev S1x16 : Shape := ⟨2, ![1, 16]⟩
abbrev S4096x16 : Shape := ⟨2, ![4096, 16]⟩
abbrev S4096x8 : Shape := ⟨2, ![4096, 8]⟩
abbrev S1024x2048 : Shape := ⟨2, ![1024, 2048]⟩
abbrev S1024x16 : Shape := ⟨2, ![1024, 16]⟩
abbrev S1024x8 : Shape := ⟨2, ![1024, 8]⟩
abbrev S1024 : Shape := ⟨1, ![1024]⟩
abbrev S1024x1 : Shape := ⟨2, ![1024, 1]⟩
abbrev S4x256x2048 : Shape := ⟨3, ![4, 256, 2048]⟩
abbrev S16x256 : Shape := ⟨2, ![16, 256]⟩
abbrev S4096x256 : Shape := ⟨2, ![4096, 256]⟩
abbrev S1x256x2048 : Shape := ⟨3, ![1, 256, 2048]⟩
abbrev S256x2048 : Shape := ⟨2, ![256, 2048]⟩
abbrev S1024x256 : Shape := ⟨2, ![1024, 256]⟩

abbrev nBuf : Space → Nat
  | .hbm => 13
  | .vmem => 20
  | .smem => 0
  | _ => 0

abbrev bufTy : (tb : Table) → Fin (tcTables nBuf tb) → BufTy
  | .hbm, ⟨0, _⟩ => ⟨S2x2048x2048, .f32⟩
  | .hbm, ⟨1, _⟩ => ⟨S16x2048, .f32⟩
  | .hbm, ⟨2, _⟩ => ⟨S16, .f32⟩
  | .hbm, ⟨3, _⟩ => ⟨S16x2048x2048, .f32⟩
  | .hbm, ⟨4, _⟩ => ⟨S16x2048, .f32⟩
  | .hbm, ⟨5, _⟩ => ⟨S4096x2048, .f32⟩
  | .hbm, ⟨6, _⟩ => ⟨S1x16, .f32⟩
  | .hbm, ⟨7, _⟩ => ⟨S4096x16, .f32⟩
  | .hbm, ⟨8, _⟩ => ⟨S4096x8, .i32⟩
  | .hbm, ⟨9, _⟩ => ⟨S4096x16, .f32⟩
  | .hbm, ⟨10, _⟩ => ⟨S4096x2048, .bf16⟩
  | .hbm, ⟨11, _⟩ => ⟨S4096x2048, .f32⟩
  | .hbm, ⟨12, _⟩ => ⟨S2x2048x2048, .f32⟩
  | .local _ .vmem, ⟨0, _⟩ => ⟨S1024x2048, .f32⟩
  | .local _ .vmem, ⟨1, _⟩ => ⟨S1024x2048, .f32⟩
  | .local _ .vmem, ⟨2, _⟩ => ⟨S16x2048, .f32⟩
  | .local _ .vmem, ⟨3, _⟩ => ⟨S1x16, .f32⟩
  | .local _ .vmem, ⟨4, _⟩ => ⟨S1024x16, .f32⟩
  | .local _ .vmem, ⟨5, _⟩ => ⟨S1024x16, .f32⟩
  | .local _ .vmem, ⟨6, _⟩ => ⟨S1024x8, .i32⟩
  | .local _ .vmem, ⟨7, _⟩ => ⟨S1024x8, .i32⟩
  | .local _ .vmem, ⟨8, _⟩ => ⟨S1024x16, .f32⟩
  | .local _ .vmem, ⟨9, _⟩ => ⟨S1024x16, .f32⟩
  | .local _ .vmem, ⟨10, _⟩ => ⟨S1024x2048, .bf16⟩
  | .local _ .vmem, ⟨11, _⟩ => ⟨S1024x2048, .bf16⟩
  | .local _ .vmem, ⟨12, _⟩ => ⟨S4096x2048, .bf16⟩
  | .local _ .vmem, ⟨13, _⟩ => ⟨S4x256x2048, .f32⟩
  | .local _ .vmem, ⟨14, _⟩ => ⟨S4x256x2048, .f32⟩
  | .local _ .vmem, ⟨15, _⟩ => ⟨S4096x16, .f32⟩
  | .local _ .vmem, ⟨16, _⟩ => ⟨S16x256, .f32⟩
  | .local _ .vmem, ⟨17, _⟩ => ⟨S16x256, .f32⟩
  | .local _ .vmem, ⟨18, _⟩ => ⟨S4096x256, .f32⟩
  | .local _ .vmem, ⟨19, _⟩ => ⟨S4096x256, .f32⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem3_1 : DmaSem sig := 17
abbrev cc1_sem4_0 : DmaSem sig := 18
abbrev cc1_sem4_1 : DmaSem sig := 19

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x8 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![8, 4], ![false, false]⟩

def k1_cond1 (i : grid1.Coords) : BitVec 1 :=
  let arg1 : BitVec 32 := BitVec.ofNat 32 (i 1).val
  let c0_i32_26 : BitVec 32 := 0#32
  let v64 : BitVec 1 := Scalar.cmpi .eq arg1 c0_i32_26
  let v65 : BitVec 32 := Scalar.extui v64
  let c0_i32_27 : BitVec 32 := 0#32
  let v66 : BitVec 1 := Scalar.cmpi .ne v65 c0_i32_27
  v66

def k1_cond2 (i : grid1.Coords) : BitVec 1 :=
  let arg1 : BitVec 32 := BitVec.ofNat 32 (i 1).val
  let c0_i32_28 : BitVec 32 := 0#32
  let v67 : BitVec 1 := Scalar.cmpi .ne arg1 c0_i32_28
  let v68 : BitVec 32 := Scalar.extui v67
  let c0_i32_29 : BitVec 32 := 0#32
  let v69 : BitVec 1 := Scalar.cmpi .ne v68 c0_i32_29
  v69

def k1_cond3 (i : grid1.Coords) : BitVec 1 :=
  let arg1 : BitVec 32 := BitVec.ofNat 32 (i 1).val
  let c0_i32_53 : BitVec 32 := 0#32
  let v122 : BitVec 1 := Scalar.cmpi .eq arg1 c0_i32_53
  let v123 : BitVec 32 := Scalar.extui v122
  let c0_i32_54 : BitVec 32 := 0#32
  let v124 : BitVec 1 := Scalar.cmpi .ne v123 c0_i32_54
  v124

def k1_cond4 (i : grid1.Coords) : BitVec 1 :=
  let arg1 : BitVec 32 := BitVec.ofNat 32 (i 1).val
  let c0_i32_55 : BitVec 32 := 0#32
  let v125 : BitVec 1 := Scalar.cmpi .ne arg1 c0_i32_55
  let v126 : BitVec 32 := Scalar.extui v125
  let c0_i32_56 : BitVec 32 := 0#32
  let v127 : BitVec 1 := Scalar.cmpi .ne v126 c0_i32_56
  v127

def k1_cond5 (i : grid1.Coords) : BitVec 1 :=
  let arg1 : BitVec 32 := BitVec.ofNat 32 (i 1).val
  let c0_i32_80 : BitVec 32 := 0#32
  let v180 : BitVec 1 := Scalar.cmpi .eq arg1 c0_i32_80
  let v181 : BitVec 32 := Scalar.extui v180
  let c0_i32_81 : BitVec 32 := 0#32
  let v182 : BitVec 1 := Scalar.cmpi .ne v181 c0_i32_81
  v182

def k1_cond6 (i : grid1.Coords) : BitVec 1 :=
  let arg1 : BitVec 32 := BitVec.ofNat 32 (i 1).val
  let c0_i32_82 : BitVec 32 := 0#32
  let v183 : BitVec 1 := Scalar.cmpi .ne arg1 c0_i32_82
  let v184 : BitVec 32 := Scalar.extui v183
  let c0_i32_83 : BitVec 32 := 0#32
  let v185 : BitVec 1 := Scalar.cmpi .ne v184 c0_i32_83
  v185

def k1_cond7 (i : grid1.Coords) : BitVec 1 :=
  let arg1 : BitVec 32 := BitVec.ofNat 32 (i 1).val
  let c0_i32_107 : BitVec 32 := 0#32
  let v238 : BitVec 1 := Scalar.cmpi .eq arg1 c0_i32_107
  let v239 : BitVec 32 := Scalar.extui v238
  let c0_i32_108 : BitVec 32 := 0#32
  let v240 : BitVec 1 := Scalar.cmpi .ne v239 c0_i32_108
  v240

def k1_cond8 (i : grid1.Coords) : BitVec 1 :=
  let arg1 : BitVec 32 := BitVec.ofNat 32 (i 1).val
  let c0_i32_109 : BitVec 32 := 0#32
  let v241 : BitVec 1 := Scalar.cmpi .ne arg1 c0_i32_109
  let v242 : BitVec 32 := Scalar.extui v241
  let c0_i32_110 : BitVec 32 := 0#32
  let v243 : BitVec 1 := Scalar.cmpi .ne v242 c0_i32_110
  v243

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 1 → Memref sig .tc .vmem S4096x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S4x256x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S4096x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S16x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S4096x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]
-- ==== ReferenceIdeal.lean ====
abbrev S2x2048x2048 : Shape := ⟨3, ![2, 2048, 2048]⟩
abbrev S16x2048 : Shape := ⟨2, ![16, 2048]⟩
abbrev S16 : Shape := ⟨1, ![16]⟩
abbrev S16x2048x2048 : Shape := ⟨3, ![16, 2048, 2048]⟩
abbrev S4096x2048 : Shape := ⟨2, ![4096, 2048]⟩
abbrev S2048x16 : Shape := ⟨2, ![2048, 16]⟩
abbrev S4096x16 : Shape := ⟨2, ![4096, 16]⟩
abbrev S1x16 : Shape := ⟨2, ![1, 16]⟩
abbrev S_ : Shape := ⟨0, ![]⟩
abbrev S4096 : Shape := ⟨1, ![4096]⟩
abbrev S4096x1 : Shape := ⟨2, ![4096, 1]⟩
abbrev S4096x8 : Shape := ⟨2, ![4096, 8]⟩
abbrev S4096x8x1 : Shape := ⟨3, ![4096, 8, 1]⟩
abbrev S4096x8x2 : Shape := ⟨3, ![4096, 8, 2]⟩
abbrev S1x2048x2048 : Shape := ⟨3, ![1, 2048, 2048]⟩
abbrev S2048x2048 : Shape := ⟨2, ![2048, 2048]⟩
abbrev S1x2048 : Shape := ⟨2, ![1, 2048]⟩
abbrev S2048 : Shape := ⟨1, ![2048]⟩

abbrev nBuf : Space → Nat
  | .hbm => 266
  | .vmem => 0
  | .smem => 0
  | _ => 0

abbrev hbmTy0_0 (i : Nat) : BufTy := match i % 128 with
  | 0 => ⟨S2x2048x2048, .f32⟩
  | 1 => ⟨S16x2048, .f32⟩
  | 2 => ⟨S16, .f32⟩
  | 3 => ⟨S16x2048x2048, .f32⟩
  | 4 => ⟨S16x2048, .f32⟩
  | 5 => ⟨S4096x2048, .f32⟩
  | 6 => ⟨S2048x16, .f32⟩
  | 7 => ⟨S4096x16, .f32⟩
  | 8 => ⟨S1x16, .f32⟩
  | 9 => ⟨S4096x16, .f32⟩
  | 10 => ⟨S4096x16, .f32⟩
  | 11 => ⟨S_, .f32⟩
  | 12 => ⟨S4096, .f32⟩
  | 13 => ⟨S_, .f32⟩
  | 14 => ⟨S4096, .f32⟩
  | 15 => ⟨S4096, .f32⟩
  | 16 => ⟨S4096x1, .f32⟩
  | 17 => ⟨S4096x16, .f32⟩
  | 18 => ⟨S4096x16, .f32⟩
  | 19 => ⟨S4096x16, .f32⟩
  | 20 => ⟨S_, .f32⟩
  | 21 => ⟨S4096, .f32⟩
  | 22 => ⟨S4096x1, .f32⟩
  | 23 => ⟨S4096x16, .f32⟩
  | 24 => ⟨S4096x16, .f32⟩
  | 25 => ⟨S4096x8, .f32⟩
  | 26 => ⟨S4096x8, .i32⟩
  | 27 => ⟨S_, .f32⟩
  | 28 => ⟨S4096, .f32⟩
  | 29 => ⟨S4096x1, .f32⟩
  | 30 => ⟨S4096x8, .f32⟩
  | 31 => ⟨S4096x8, .f32⟩
  | 32 => ⟨S_, .f32⟩
  | 33 => ⟨S4096x16, .f32⟩
  | 34 => ⟨S4096, .i32⟩
  | 35 => ⟨S4096x1, .i32⟩
  | 36 => ⟨S_, .i32⟩
  | 37 => ⟨S4096x1, .i32⟩
  | 38 => ⟨S4096x1, .i1⟩
  | 39 => ⟨S_, .i32⟩
  | 40 => ⟨S4096x1, .i32⟩
  | 41 => ⟨S4096x1, .i32⟩
  | 42 => ⟨S4096x1, .i32⟩
  | 43 => ⟨S_, .i32⟩
  | 44 => ⟨S4096x8, .i32⟩
  | 45 => ⟨S4096x8, .i1⟩
  | 46 => ⟨S_, .i32⟩
  | 47 => ⟨S4096x8, .i32⟩
  | 48 => ⟨S4096x8, .i32⟩
  | 49 => ⟨S4096x8, .i32⟩
  | 50 => ⟨S4096x8, .i32⟩
  | 51 => ⟨S4096x8x1, .i32⟩
  | 52 => ⟨S4096x8x1, .i32⟩
  | 53 => ⟨S4096x8x2, .i32⟩
  | 54 => ⟨S4096x16, .f32⟩
  | 55 => ⟨S_, .f32⟩
  | 56 => ⟨S4096x2048, .f32⟩
  | 57 => ⟨S1x2048x2048, .f32⟩
  | 58 => ⟨S2048x2048, .f32⟩
  | 59 => ⟨S2048x2048, .f32⟩
  | 60 => ⟨S4096x2048, .f32⟩
  | 61 => ⟨S1x2048, .f32⟩
  | 62 => ⟨S2048, .f32⟩
  | 63 => ⟨S1x2048, .f32⟩
  | 64 => ⟨S4096x2048, .f32⟩
  | 65 => ⟨S4096x2048, .f32⟩
  | 66 => ⟨S4096x1, .f32⟩
  | 67 => ⟨S4096x2048, .f32⟩
  | 68 => ⟨S4096x2048, .f32⟩
  | 69 => ⟨S4096x2048, .f32⟩
  | 70 => ⟨S1x2048x2048, .f32⟩
  | 71 => ⟨S2048x2048, .f32⟩
  | 72 => ⟨S2048x2048, .f32⟩
  | 73 => ⟨S4096x2048, .f32⟩
  | 74 => ⟨S1x2048, .f32⟩
  | 75 => ⟨S2048, .f32⟩
  | 76 => ⟨S1x2048, .f32⟩
  | 77 => ⟨S4096x2048, .f32⟩
  | 78 => ⟨S4096x2048, .f32⟩
  | 79 => ⟨S4096x1, .f32⟩
  | 80 => ⟨S4096x2048, .f32⟩
  | 81 => ⟨S4096x2048, .f32⟩
  | 82 => ⟨S4096x2048, .f32⟩
  | 83 => ⟨S1x2048x2048, .f32⟩
  | 84 => ⟨S2048x2048, .f32⟩
  | 85 => ⟨S2048x2048, .f32⟩
  | 86 => ⟨S4096x2048, .f32⟩
  | 87 => ⟨S1x2048, .f32⟩
  | 88 => ⟨S2048, .f32⟩
  | 89 => ⟨S1x2048, .f32⟩
  | 90 => ⟨S4096x2048, .f32⟩
  | 91 => ⟨S4096x2048, .f32⟩
  | 92 => ⟨S4096x1, .f32⟩
  | 93 => ⟨S4096x2048, .f32⟩
  | 94 => ⟨S4096x2048, .f32⟩
  | 95 => ⟨S4096x2048, .f32⟩
  | 96 => ⟨S1x2048x2048, .f32⟩
  | 97 => ⟨S2048x2048, .f32⟩
  | 98 => ⟨S2048x2048, .f32⟩
  | 99 => ⟨S4096x2048, .f32⟩
  | 100 => ⟨S1x2048, .f32⟩
  | 101 => ⟨S2048, .f32⟩
  | 102 => ⟨S1x2048, .f32⟩
  | 103 => ⟨S4096x2048, .f32⟩
  | 104 => ⟨S4096x2048, .f32⟩
  | 105 => ⟨S4096x1, .f32⟩
  | 106 => ⟨S4096x2048, .f32⟩
  | 107 => ⟨S4096x2048, .f32⟩
  | 108 => ⟨S4096x2048, .f32⟩
  | 109 => ⟨S1x2048x2048, .f32⟩
  | 110 => ⟨S2048x2048, .f32⟩
  | 111 => ⟨S2048x2048, .f32⟩
  | 112 => ⟨S4096x2048, .f32⟩
  | 113 => ⟨S1x2048, .f32⟩
  | 114 => ⟨S2048, .f32⟩
  | 115 => ⟨S1x2048, .f32⟩
  | 116 => ⟨S4096x2048, .f32⟩
  | 117 => ⟨S4096x2048, .f32⟩
  | 118 => ⟨S4096x1, .f32⟩
  | 119 => ⟨S4096x2048, .f32⟩
  | 120 => ⟨S4096x2048, .f32⟩
  | 121 => ⟨S4096x2048, .f32⟩
  | 122 => ⟨S1x2048x2048, .f32⟩
  | 123 => ⟨S2048x2048, .f32⟩
  | 124 => ⟨S2048x2048, .f32⟩
  | 125 => ⟨S4096x2048, .f32⟩
  | 126 => ⟨S1x2048, .f32⟩
  | 127 => ⟨S2048, .f32⟩
  | _ => ⟨S2x2048x2048, .f32⟩

abbrev hbmTy0_1 (i : Nat) : BufTy := match i % 128 with
  | 0 => ⟨S1x2048, .f32⟩
  | 1 => ⟨S4096x2048, .f32⟩
  | 2 => ⟨S4096x2048, .f32⟩
  | 3 => ⟨S4096x1, .f32⟩
  | 4 => ⟨S4096x2048, .f32⟩
  | 5 => ⟨S4096x2048, .f32⟩
  | 6 => ⟨S4096x2048, .f32⟩
  | 7 => ⟨S1x2048x2048, .f32⟩
  | 8 => ⟨S2048x2048, .f32⟩
  | 9 => ⟨S2048x2048, .f32⟩
  | 10 => ⟨S4096x2048, .f32⟩
  | 11 => ⟨S1x2048, .f32⟩
  | 12 => ⟨S2048, .f32⟩
  | 13 => ⟨S1x2048, .f32⟩
  | 14 => ⟨S4096x2048, .f32⟩
  | 15 => ⟨S4096x2048, .f32⟩
  | 16 => ⟨S4096x1, .f32⟩
  | 17 => ⟨S4096x2048, .f32⟩
  | 18 => ⟨S4096x2048, .f32⟩
  | 19 => ⟨S4096x2048, .f32⟩
  | 20 => ⟨S1x2048x2048, .f32⟩
  | 21 => ⟨S2048x2048, .f32⟩
  | 22 => ⟨S2048x2048, .f32⟩
  | 23 => ⟨S4096x2048, .f32⟩
  | 24 => ⟨S1x2048, .f32⟩
  | 25 => ⟨S2048, .f32⟩
  | 26 => ⟨S1x2048, .f32⟩
  | 27 => ⟨S4096x2048, .f32⟩
  | 28 => ⟨S4096x2048, .f32⟩
  | 29 => ⟨S4096x1, .f32⟩
  | 30 => ⟨S4096x2048, .f32⟩
  | 31 => ⟨S4096x2048, .f32⟩
  | 32 => ⟨S4096x2048, .f32⟩
  | 33 => ⟨S1x2048x2048, .f32⟩
  | 34 => ⟨S2048x2048, .f32⟩
  | 35 => ⟨S2048x2048, .f32⟩
  | 36 => ⟨S4096x2048, .f32⟩
  | 37 => ⟨S1x2048, .f32⟩
  | 38 => ⟨S2048, .f32⟩
  | 39 => ⟨S1x2048, .f32⟩
  | 40 => ⟨S4096x2048, .f32⟩
  | 41 => ⟨S4096x2048, .f32⟩
  | 42 => ⟨S4096x1, .f32⟩
  | 43 => ⟨S4096x2048, .f32⟩
  | 44 => ⟨S4096x2048, .f32⟩
  | 45 => ⟨S4096x2048, .f32⟩
  | 46 => ⟨S1x2048x2048, .f32⟩
  | 47 => ⟨S2048x2048, .f32⟩
  | 48 => ⟨S2048x2048, .f32⟩
  | 49 => ⟨S4096x2048, .f32⟩
  | 50 => ⟨S1x2048, .f32⟩
  | 51 => ⟨S2048, .f32⟩
  | 52 => ⟨S1x2048, .f32⟩
  | 53 => ⟨S4096x2048, .f32⟩
  | 54 => ⟨S4096x2048, .f32⟩
  | 55 => ⟨S4096x1, .f32⟩
  | 56 => ⟨S4096x2048, .f32⟩
  | 57 => ⟨S4096x2048, .f32⟩
  | 58 => ⟨S4096x2048, .f32⟩
  | 59 => ⟨S1x2048x2048, .f32⟩
  | 60 => ⟨S2048x2048, .f32⟩
  | 61 => ⟨S2048x2048, .f32⟩
  | 62 => ⟨S4096x2048, .f32⟩
  | 63 => ⟨S1x2048, .f32⟩
  | 64 => ⟨S2048, .f32⟩
  | 65 => ⟨S1x2048, .f32⟩
  | 66 => ⟨S4096x2048, .f32⟩
  | 67 => ⟨S4096x2048, .f32⟩
  | 68 => ⟨S4096x1, .f32⟩
  | 69 => ⟨S4096x2048, .f32⟩
  | 70 => ⟨S4096x2048, .f32⟩
  | 71 => ⟨S4096x2048, .f32⟩
  | 72 => ⟨S1x2048x2048, .f32⟩
  | 73 => ⟨S2048x2048, .f32⟩
  | 74 => ⟨S2048x2048, .f32⟩
  | 75 => ⟨S4096x2048, .f32⟩
  | 76 => ⟨S1x2048, .f32⟩
  | 77 => ⟨S2048, .f32⟩
  | 78 => ⟨S1x2048, .f32⟩
  | 79 => ⟨S4096x2048, .f32⟩
  | 80 => ⟨S4096x2048, .f32⟩
  | 81 => ⟨S4096x1, .f32⟩
  | 82 => ⟨S4096x2048, .f32⟩
  | 83 => ⟨S4096x2048, .f32⟩
  | 84 => ⟨S4096x2048, .f32⟩
  | 85 => ⟨S1x2048x2048, .f32⟩
  | 86 => ⟨S2048x2048, .f32⟩
  | 87 => ⟨S2048x2048, .f32⟩
  | 88 => ⟨S4096x2048, .f32⟩
  | 89 => ⟨S1x2048, .f32⟩
  | 90 => ⟨S2048, .f32⟩
  | 91 => ⟨S1x2048, .f32⟩
  | 92 => ⟨S4096x2048, .f32⟩
  | 93 => ⟨S4096x2048, .f32⟩
  | 94 => ⟨S4096x1, .f32⟩
  | 95 => ⟨S4096x2048, .f32⟩
  | 96 => ⟨S4096x2048, .f32⟩
  | 97 => ⟨S4096x2048, .f32⟩
  | 98 => ⟨S1x2048x2048, .f32⟩
  | 99 => ⟨S2048x2048, .f32⟩
  | 100 => ⟨S2048x2048, .f32⟩
  | 101 => ⟨S4096x2048, .f32⟩
  | 102 => ⟨S1x2048, .f32⟩
  | 103 => ⟨S2048, .f32⟩
  | 104 => ⟨S1x2048, .f32⟩
  | 105 => ⟨S4096x2048, .f32⟩
  | 106 => ⟨S4096x2048, .f32⟩
  | 107 => ⟨S4096x1, .f32⟩
  | 108 => ⟨S4096x2048, .f32⟩
  | 109 => ⟨S4096x2048, .f32⟩
  | 110 => ⟨S4096x2048, .f32⟩
  | 111 => ⟨S1x2048x2048, .f32⟩
  | 112 => ⟨S2048x2048, .f32⟩
  | 113 => ⟨S2048x2048, .f32⟩
  | 114 => ⟨S4096x2048, .f32⟩
  | 115 => ⟨S1x2048, .f32⟩
  | 116 => ⟨S2048, .f32⟩
  | 117 => ⟨S1x2048, .f32⟩
  | 118 => ⟨S4096x2048, .f32⟩
  | 119 => ⟨S4096x2048, .f32⟩
  | 120 => ⟨S4096x1, .f32⟩
  | 121 => ⟨S4096x2048, .f32⟩
  | 122 => ⟨S4096x2048, .f32⟩
  | 123 => ⟨S4096x2048, .f32⟩
  | 124 => ⟨S1x2048x2048, .f32⟩
  | 125 => ⟨S2048x2048, .f32⟩
  | 126 => ⟨S2048x2048, .f32⟩
  | 127 => ⟨S4096x2048, .f32⟩
  | _ => ⟨S2x2048x2048, .f32⟩

abbrev hbmTy0_2 (i : Nat) : BufTy := match i % 128 with
  | 0 => ⟨S1x2048, .f32⟩
  | 1 => ⟨S2048, .f32⟩
  | 2 => ⟨S1x2048, .f32⟩
  | 3 => ⟨S4096x2048, .f32⟩
  | 4 => ⟨S4096x2048, .f32⟩
  | 5 => ⟨S4096x1, .f32⟩
  | 6 => ⟨S4096x2048, .f32⟩
  | 7 => ⟨S4096x2048, .f32⟩
  | 8 => ⟨S4096x2048, .f32⟩
  | 9 => ⟨S2x2048x2048, .f32⟩
  | _ => ⟨S2x2048x2048, .f32⟩

abbrev hbmTy (i : Nat) : BufTy := match i / 128 with
  | 0 => hbmTy0_0 i
  | 1 => hbmTy0_1 i
  | 2 => hbmTy0_2 i
  | _ => ⟨S2x2048x2048, .f32⟩

abbrev bufTy : (tb : Table) → Fin (tcTables nBuf tb) → BufTy
  | .hbm, ⟨i, _⟩ => hbmTy i
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_values : Ref sig .tc := ⟨.hbm, 25, rfl⟩
abbrev main_indices : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c : Ref sig .tc := ⟨.hbm, 36, rfl⟩
abbrev main_v24 : Ref sig .tc := ⟨.hbm, 37, rfl⟩
abbrev main_v25 : Ref sig .tc := ⟨.hbm, 38, rfl⟩
abbrev main_c_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_5 : Ref sig .tc := ⟨.hbm, 43, rfl⟩
abbrev main_v29 : Ref sig .tc := ⟨.hbm, 44, rfl⟩
abbrev main_v30 : Ref sig .tc := ⟨.hbm, 45, rfl⟩
abbrev main_c_6 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_v133 : Ref sig .tc := ⟨.hbm, 150, rfl⟩
abbrev main_v134 : Ref sig .tc := ⟨.hbm, 151, rfl⟩
abbrev main_v135 : Ref sig .tc := ⟨.hbm, 152, rfl⟩
abbrev main_v136 : Ref sig .tc := ⟨.hbm, 153, rfl⟩
abbrev main_v137 : Ref sig .tc := ⟨.hbm, 154, rfl⟩
abbrev main_v138 : Ref sig .tc := ⟨.hbm, 155, rfl⟩
abbrev main_v139 : Ref sig .tc := ⟨.hbm, 156, rfl⟩
abbrev main_v140 : Ref sig .tc := ⟨.hbm, 157, rfl⟩
abbrev main_v141 : Ref sig .tc := ⟨.hbm, 158, rfl⟩
abbrev main_v142 : Ref sig .tc := ⟨.hbm, 159, rfl⟩
abbrev main_v143 : Ref sig .tc := ⟨.hbm, 160, rfl⟩
abbrev main_v144 : Ref sig .tc := ⟨.hbm, 161, rfl⟩
abbrev main_v145 : Ref sig .tc := ⟨.hbm, 162, rfl⟩
abbrev main_v146 : Ref sig .tc := ⟨.hbm, 163, rfl⟩
abbrev main_v147 : Ref sig .tc := ⟨.hbm, 164, rfl⟩
abbrev main_v148 : Ref sig .tc := ⟨.hbm, 165, rfl⟩
abbrev main_v149 : Ref sig .tc := ⟨.hbm, 166, rfl⟩
abbrev main_v150 : Ref sig .tc := ⟨.hbm, 167, rfl⟩
abbrev main_v151 : Ref sig .tc := ⟨.hbm, 168, rfl⟩
abbrev main_v152 : Ref sig .tc := ⟨.hbm, 169, rfl⟩
abbrev main_v153 : Ref sig .tc := ⟨.hbm, 170, rfl⟩
abbrev main_v154 : Ref sig .tc := ⟨.hbm, 171, rfl⟩
abbrev main_v155 : Ref sig .tc := ⟨.hbm, 172, rfl⟩
abbrev main_v156 : Ref sig .tc := ⟨.hbm, 173, rfl⟩
abbrev main_v157 : Ref sig .tc := ⟨.hbm, 174, rfl⟩
abbrev main_v158 : Ref sig .tc := ⟨.hbm, 175, rfl⟩
abbrev main_v159 : Ref sig .tc := ⟨.hbm, 176, rfl⟩
abbrev main_v160 : Ref sig .tc := ⟨.hbm, 177, rfl⟩
abbrev main_v161 : Ref sig .tc := ⟨.hbm, 178, rfl⟩
abbrev main_v162 : Ref sig .tc := ⟨.hbm, 179, rfl⟩
abbrev main_v163 : Ref sig .tc := ⟨.hbm, 180, rfl⟩
abbrev main_v164 : Ref sig .tc := ⟨.hbm, 181, rfl⟩
abbrev main_v165 : Ref sig .tc := ⟨.hbm, 182, rfl⟩
abbrev main_v166 : Ref sig .tc := ⟨.hbm, 183, rfl⟩
abbrev main_v167 : Ref sig .tc := ⟨.hbm, 184, rfl⟩
abbrev main_v168 : Ref sig .tc := ⟨.hbm, 185, rfl⟩
abbrev main_v169 : Ref sig .tc := ⟨.hbm, 186, rfl⟩
abbrev main_v170 : Ref sig .tc := ⟨.hbm, 187, rfl⟩
abbrev main_v171 : Ref sig .tc := ⟨.hbm, 188, rfl⟩
abbrev main_v172 : Ref sig .tc := ⟨.hbm, 189, rfl⟩
abbrev main_v173 : Ref sig .tc := ⟨.hbm, 190, rfl⟩
abbrev main_v174 : Ref sig .tc := ⟨.hbm, 191, rfl⟩
abbrev main_v175 : Ref sig .tc := ⟨.hbm, 192, rfl⟩
abbrev main_v176 : Ref sig .tc := ⟨.hbm, 193, rfl⟩
abbrev main_v177 : Ref sig .tc := ⟨.hbm, 194, rfl⟩
abbrev main_v178 : Ref sig .tc := ⟨.hbm, 195, rfl⟩
abbrev main_v179 : Ref sig .tc := ⟨.hbm, 196, rfl⟩
abbrev main_v180 : Ref sig .tc := ⟨.hbm, 197, rfl⟩
abbrev main_v181 : Ref sig .tc := ⟨.hbm, 198, rfl⟩
abbrev main_v182 : Ref sig .tc := ⟨.hbm, 199, rfl⟩
abbrev main_v183 : Ref sig .tc := ⟨.hbm, 200, rfl⟩
abbrev main_v184 : Ref sig .tc := ⟨.hbm, 201, rfl⟩
abbrev main_v185 : Ref sig .tc := ⟨.hbm, 202, rfl⟩
abbrev main_v186 : Ref sig .tc := ⟨.hbm, 203, rfl⟩
abbrev main_v187 : Ref sig .tc := ⟨.hbm, 204, rfl⟩
abbrev main_v188 : Ref sig .tc := ⟨.hbm, 205, rfl⟩
abbrev main_v189 : Ref sig .tc := ⟨.hbm, 206, rfl⟩
abbrev main_v190 : Ref sig .tc := ⟨.hbm, 207, rfl⟩
abbrev main_v191 : Ref sig .tc := ⟨.hbm, 208, rfl⟩
abbrev main_v192 : Ref sig .tc := ⟨.hbm, 209, rfl⟩
abbrev main_v193 : Ref sig .tc := ⟨.hbm, 210, rfl⟩
abbrev main_v194 : Ref sig .tc := ⟨.hbm, 211, rfl⟩
abbrev main_v195 : Ref sig .tc := ⟨.hbm, 212, rfl⟩
abbrev main_v196 : Ref sig .tc := ⟨.hbm, 213, rfl⟩
abbrev main_v197 : Ref sig .tc := ⟨.hbm, 214, rfl⟩
abbrev main_v198 : Ref sig .tc := ⟨.hbm, 215, rfl⟩
abbrev main_v199 : Ref sig .tc := ⟨.hbm, 216, rfl⟩
abbrev main_v200 : Ref sig .tc := ⟨.hbm, 217, rfl⟩
abbrev main_v201 : Ref sig .tc := ⟨.hbm, 218, rfl⟩
abbrev main_v202 : Ref sig .tc := ⟨.hbm, 219, rfl⟩
abbrev main_v203 : Ref sig .tc := ⟨.hbm, 220, rfl⟩
abbrev main_v204 : Ref sig .tc := ⟨.hbm, 221, rfl⟩
abbrev main_v205 : Ref sig .tc := ⟨.hbm, 222, rfl⟩
abbrev main_v206 : Ref sig .tc := ⟨.hbm, 223, rfl⟩
abbrev main_v207 : Ref sig .tc := ⟨.hbm, 224, rfl⟩
abbrev main_v208 : Ref sig .tc := ⟨.hbm, 225, rfl⟩
abbrev main_v209 : Ref sig .tc := ⟨.hbm, 226, rfl⟩
abbrev main_v210 : Ref sig .tc := ⟨.hbm, 227, rfl⟩
abbrev main_v211 : Ref sig .tc := ⟨.hbm, 228, rfl⟩
abbrev main_v212 : Ref sig .tc := ⟨.hbm, 229, rfl⟩
abbrev main_v213 : Ref sig .tc := ⟨.hbm, 230, rfl⟩
abbrev main_v214 : Ref sig .tc := ⟨.hbm, 231, rfl⟩
abbrev main_v215 : Ref sig .tc := ⟨.hbm, 232, rfl⟩
abbrev main_v216 : Ref sig .tc := ⟨.hbm, 233, rfl⟩
abbrev main_v217 : Ref sig .tc := ⟨.hbm, 234, rfl⟩
abbrev main_v218 : Ref sig .tc := ⟨.hbm, 235, rfl⟩
abbrev main_v219 : Ref sig .tc := ⟨.hbm, 236, rfl⟩
abbrev main_v220 : Ref sig .tc := ⟨.hbm, 237, rfl⟩
abbrev main_v221 : Ref sig .tc := ⟨.hbm, 238, rfl⟩
abbrev main_v222 : Ref sig .tc := ⟨.hbm, 239, rfl⟩
abbrev main_v223 : Ref sig .tc := ⟨.hbm, 240, rfl⟩
abbrev main_v224 : Ref sig .tc := ⟨.hbm, 241, rfl⟩
abbrev main_v225 : Ref sig .tc := ⟨.hbm, 242, rfl⟩
abbrev main_v226 : Ref sig .tc := ⟨.hbm, 243, rfl⟩
abbrev main_v227 : Ref sig .tc := ⟨.hbm, 244, rfl⟩
abbrev main_v228 : Ref sig .tc := ⟨.hbm, 245, rfl⟩
abbrev main_v229 : Ref sig .tc := ⟨.hbm, 246, rfl⟩
abbrev main_v230 : Ref sig .tc := ⟨.hbm, 247, rfl⟩
abbrev main_v231 : Ref sig .tc := ⟨.hbm, 248, rfl⟩
abbrev main_v232 : Ref sig .tc := ⟨.hbm, 249, rfl⟩
abbrev main_v233 : Ref sig .tc := ⟨.hbm, 250, rfl⟩
abbrev main_v234 : Ref sig .tc := ⟨.hbm, 251, rfl⟩
abbrev main_v235 : Ref sig .tc := ⟨.hbm, 252, rfl⟩
abbrev main_v236 : Ref sig .tc := ⟨.hbm, 253, rfl⟩
abbrev main_v237 : Ref sig .tc := ⟨.hbm, 254, rfl⟩
abbrev main_v238 : Ref sig .tc := ⟨.hbm, 255, rfl⟩
abbrev main_v239 : Ref sig .tc := ⟨.hbm, 256, rfl⟩
abbrev main_v240 : Ref sig .tc := ⟨.hbm, 257, rfl⟩
abbrev main_v241 : Ref sig .tc := ⟨.hbm, 258, rfl⟩
abbrev main_v242 : Ref sig .tc := ⟨.hbm, 259, rfl⟩
abbrev main_v243 : Ref sig .tc := ⟨.hbm, 260, rfl⟩
abbrev main_v244 : Ref sig .tc := ⟨.hbm, 261, rfl⟩
abbrev main_v245 : Ref sig .tc := ⟨.hbm, 262, rfl⟩
abbrev main_v246 : Ref sig .tc := ⟨.hbm, 263, rfl⟩
abbrev main_v247 : Ref sig .tc := ⟨.hbm, 264, rfl⟩
abbrev main_v248 : Ref sig .tc := ⟨.hbm, 265, rfl⟩

abbrev nD : Nat := 1
abbrev τ : Topo := Topo.v7x

variable {F : FTy → Type} [FloatOps F]
-- ==== Proof.Ideal.Router.lean ====
/- The router region of the kernel: what its body leaves in every window, at any entry contents. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- A window's block at a grid point, read off the array the region finds. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S1024x2048 := Rect.unit (s := S1024x2048) ![0, 0] S1024x2048.size inb_S1024x2048_S1024x2048_0_0
abbrev r0_1 : Rect S16x2048 := Rect.unit (s := S16x2048) ![0, 0] S16x2048.size inb_S16x2048_S16x2048_0_0
abbrev r0_2 : Rect S1x16 := Rect.unit (s := S1x16) ![0, 0] S1x16.size inb_S1x16_S1x16_0_0
abbrev r0_3 : Rect S1024x16 := Rect.unit (s := S1024x16) ![0, 0] S1024x16.size inb_S1024x16_S1024x16_0_0
abbrev r0_4 : Rect S1024x8 := Rect.unit (s := S1024x8) ![0, 0] S1024x8.size inb_S1024x8_S1024x8_0_0

def k0_pay38 (x0 : Vec F S1024x2048 .f32) (x1 : Vec F S16x2048 .f32) (x2 : Vec F S1x16 .f32) : IVec S1024x16 32 :=
  iota .tc S1024x16 32 [1] iota_S1024x16_d1_w32 -- `v19`
def k0_pay39 (x0 : Vec F S1024x2048 .f32) (x1 : Vec F S16x2048 .f32) (x2 : Vec F S1x16 .f32) : FVec F S1024x16 .f32 :=
  k0_pay4 (View.ld x0 r0_0) (View.ld x1 r0_1) (View.ld x2 r0_2) -- `v18`
def k0_pay40 (x0 : Vec F S1024x2048 .f32) (x1 : Vec F S16x2048 .f32) (x2 : Vec F S1x16 .f32) : FVec F S1024x16 .f32 :=
  k0_pay9 (View.ld x0 r0_0) (View.ld x1 r0_1) (View.ld x2 r0_2) -- `v34`
def k0_pay41 (x0 : Vec F S1024x2048 .f32) (x1 : Vec F S16x2048 .f32) (x2 : Vec F S1x16 .f32) : IVec S1024 32 :=
  k0_pay10 (View.ld x0 r0_0) (View.ld x1 r0_1) (View.ld x2 r0_2) -- `v41`
def k0_pay42 (x0 : Vec F S1024x2048 .f32) (x1 : Vec F S16x2048 .f32) (x2 : Vec F S1x16 .f32) : FVec F S1024x16 .f32 :=
  k0_pay21 (k0_pay38 x0 x1 x2) (k0_pay40 x0 x1 x2) (k0_pay41 x0 x1 x2) -- `v76`
def k0_pay43 (x0 : Vec F S1024x2048 .f32) (x1 : Vec F S16x2048 .f32) (x2 : Vec F S1x16 .f32) : IVec S1024x16 1 :=
  k0_pay24 (k0_pay38 x0 x1 x2) (k0_pay40 x0 x1 x2) (k0_pay41 x0 x1 x2) -- `v87`
def k0_pay44 (x0 : Vec F S1024x2048 .f32) (x1 : Vec F S16x2048 .f32) (x2 : Vec F S1x16 .f32) : IVec S1024x16 1 :=
  k0_pay25 (k0_pay38 x0 x1 x2) (k0_pay8 (View.ld x0 r0_0) (View.ld x1 r0_1) (View.ld x2 r0_2)) (k0_pay40 x0 x1 x2) (k0_pay41 x0 x1 x2) -- `v88`

/-- The block of probabilities a point stores, from the three input blocks. -/
def out0_3 (x0 : Vec F S1024x2048 .f32) (x1 : Vec F S16x2048 .f32) (x2 : Vec F S1x16 .f32) : Vec F S1024x16 .f32 :=
  View.canon [⟨r0_3, k0_pay39 x0 x1 x2⟩]

theorem cover0_3 (p0 : Vec F S1024x16 .f32) (y : S1024x16.Idx) :
    ∃ pc ∈ ([⟨r0_3, p0⟩] : List (View.Piece (Elt F) S1024x16 .f32)), y ∈ pc.1.set :=
  View.cover_of_tiled [⟨r0_3, p0⟩] S1024x16.size (by rfl) y

/-- The block of chosen indices a point stores. -/
def out0_4 (x0 : Vec F S1024x2048 .f32) (x1 : Vec F S16x2048 .f32) (x2 : Vec F S1x16 .f32) : Vec F S1024x8 .i32 :=
  View.canon [⟨r0_4, k0_pay2 (k0_pay6 (View.ld x0 r0_0) (View.ld x1 r0_1) (View.ld x2 r0_2)) (k0_pay11 (k0_pay41 x0 x1 x2)) (k0_pay15 (k0_pay38 x0 x1 x2) (k0_pay40 x0 x1 x2) (k0_pay41 x0 x1 x2)) (k0_pay19 (k0_pay38 x0 x1 x2) (k0_pay40 x0 x1 x2) (k0_pay41 x0 x1 x2)) (k0_pay23 (k0_pay38 x0 x1 x2) (k0_pay40 x0 x1 x2) (k0_pay41 x0 x1 x2)) (k0_pay28 (k0_pay38 x0 x1 x2) (k0_pay42 x0 x1 x2) (k0_pay43 x0 x1 x2) (Scalar.ofBits .f32 0xBF800000#32)) (k0_pay32 (k0_pay38 x0 x1 x2) (k0_pay42 x0 x1 x2) (k0_pay43 x0 x1 x2) (Scalar.ofBits .f32 0xBF800000#32)) (k0_pay35 (k0_pay38 x0 x1 x2) (k0_pay42 x0 x1 x2) (k0_pay43 x0 x1 x2) (Scalar.ofBits .f32 0xBF800000#32))⟩]

theorem cover0_4 (p0 : Vec F S1024x8 .i32) (y : S1024x8.Idx) :
    ∃ pc ∈ ([⟨r0_4, p0⟩] : List (View.Piece (Elt F) S1024x8 .i32)), y ∈ pc.1.set :=
  View.cover_of_tiled [⟨r0_4, p0⟩] S1024x8.size (by rfl) y

/-- The block of combining weights a point stores. -/
def out0_5 (x0 : Vec F S1024x2048 .f32) (x1 : Vec F S16x2048 .f32) (x2 : Vec F S1x16 .f32) : Vec F S1024x16 .f32 :=
  View.canon [⟨r0_3, k0_pay1 (k0_pay36 (k0_pay39 x0 x1 x2) (k0_pay38 x0 x1 x2) (k0_pay42 x0 x1 x2) (k0_pay43 x0 x1 x2) (k0_pay44 x0 x1 x2) (Scalar.ofBits .f32 0xBF800000#32)) (k0_pay37 (k0_pay39 x0 x1 x2) (k0_pay38 x0 x1 x2) (k0_pay42 x0 x1 x2) (k0_pay43 x0 x1 x2) (k0_pay44 x0 x1 x2) (Scalar.ofBits .f32 0xBF800000#32))⟩]

theorem cover0_5 (p0 : Vec F S1024x16 .f32) (y : S1024x16.Idx) :
    ∃ pc ∈ ([⟨r0_3, p0⟩] : List (View.Piece (Elt F) S1024x16 .f32)), y ∈ pc.1.set :=
  View.cover_of_tiled [⟨r0_3, p0⟩] S1024x16.size (by rfl) y

/-- The block of tokens a point stores again. -/
def out0_6 (x0 : Vec F S1024x2048 .f32) (x1 : Vec F S16x2048 .f32) (x2 : Vec F S1x16 .f32) : Vec F S1024x2048 .bf16 :=
  View.canon [⟨r0_0, k0_pay3 (View.ld x0 r0_0)⟩]

theorem cover0_6 (p0 : Vec F S1024x2048 .bf16) (y : S1024x2048.Idx) :
    ∃ pc ∈ ([⟨r0_0, p0⟩] : List (View.Piece (Elt F) S1024x2048 .bf16)), y ∈ pc.1.set :=
  View.cover_of_tiled [⟨r0_0, p0⟩] S1024x2048.size (by rfl) y

set_option maxHeartbeats 1000000 in
/-- The body's triple: the inputs stay, each output block ends as stated above. -/
theorem sound_kernel0 (c : Dev nD) (E : Set ℕ) (i : grid0.Coords) (arg1 : Memref sig .tc .vmem S1024x2048 .f32) (harg1 : arg1.IsWhole) (arg2 : Memref sig .tc .vmem S16x2048 .f32) (harg2 : arg2.IsWhole) (arg3 : Memref sig .tc .vmem S1x16 .f32) (harg3 : arg3.IsWhole) (arg4 : Memref sig .tc .vmem S1024x16 .f32) (harg4 : arg4.IsWhole) (arg5 : Memref sig .tc .vmem S1024x8 .i32) (harg5 : arg5.IsWhole) (arg6 : Memref sig .tc .vmem S1024x16 .f32) (harg6 : arg6.IsWhole) (arg7 : Memref sig .tc .vmem S1024x2048 .bf16) (harg7 : arg7.IsWhole)
    (x0 : Vec F S1024x2048 .f32) (x1 : Vec F S16x2048 .f32) (x2 : Vec F S1x16 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2) ∗ owns (c : Thread nD τ) arg5 fullShare (out0_4 x0 x1 x2) ∗ owns (c : Thread nD τ) arg6 fullShare (out0_5 x0 x1 x2) ∗ owns (c : Thread nD τ) arg7 fullShare (out0_6 x0 x1 x2)) -∗ K ⟨⟩))
      ⊢ wp frame (wpE (defs₀ (F := F)) Variants.none c none) E (cc0__router_body i arg1 harg1 arg2 harg2 arg3 harg3 arg4 harg4 arg5 harg5 arg6 harg6 arg7 harg7) K := by
  simp only [cc0__router_body_eq_skeleton]; unfold cc0__router_body_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (View.read_writes_eq_canon _ _ _ (cover0_3 _)).trans ?_
    rfl
  isplitl [H4]
  · iexists _; isplitr
    swap; · iexact H4
    ipureintro
    refine (View.read_writes_eq_canon _ _ _ (cover0_4 _)).trans ?_
    rfl
  isplitl [H5]
  · iexists _; isplitr
    swap; · iexact H5
    ipureintro
    refine (View.read_writes_eq_canon _ _ _ (cover0_5 _)).trans ?_
    rfl
  iexists _; isplitr
  swap; · iexact H6
  ipureintro
  refine (View.read_writes_eq_canon _ _ _ (cover0_6 _)).trans ?_
  rfl

/-- The pipeline's proof data over the entry contents `V`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
    | ⟨6, _⟩ => out0_6 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]
theorem after0_6 (c : Dev nD) (t : Fin cfg0.N) : (dat0 V c).after 6 t = out0_6 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row0 (t : Fin cfg0.N) :
    defs₀ (F := F) .tc cfg0.body (cfg0.bodyArgs t (cfg0.slots t)) = bodyAt0 t := by
  unfold defs₀; rw [Defs.onTc_tc]

/-- The body obligation at every grid point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl
end Cert.KernelIdeal.Run

end
-- ==== Proof.Ideal.ExpertsBody.lean ====
/- The experts region of the kernel: what one run of its body leaves in the output window. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
abbrev rw1_0 : Rect S4x256x2048 := Rect.unit (s := S4x256x2048) ![0, 0, 0] S1x256x2048.size inb_S4x256x2048_S1x256x2048_0_0_0
abbrev rw1_1 : Rect S4x256x2048 := Rect.unit (s := S4x256x2048) ![1, 0, 0] S1x256x2048.size inb_S4x256x2048_S1x256x2048_1_0_0
abbrev rw1_2 : Rect S4x256x2048 := Rect.unit (s := S4x256x2048) ![2, 0, 0] S1x256x2048.size inb_S4x256x2048_S1x256x2048_2_0_0
abbrev rw1_3 : Rect S4x256x2048 := Rect.unit (s := S4x256x2048) ![3, 0, 0] S1x256x2048.size inb_S4x256x2048_S1x256x2048_3_0_0
abbrev rb1 : Rect S16x256 := Rect.unit (s := S16x256) ![0, 0] S16x256.size inb_S16x256_S16x256_0_0
abbrev rx1_0 : Rect S4096x2048 := Rect.unit (s := S4096x2048) ![0, 0] S1024x2048.size inb_S4096x2048_S1024x2048_0_0
abbrev rc1_0 : Rect S4096x16 := Rect.unit (s := S4096x16) ![0, 0] S1024x16.size inb_S4096x16_S1024x16_0_0
abbrev ro1_0 : Rect S4096x256 := Rect.unit (s := S4096x256) ![0, 0] S1024x256.size inb_S4096x256_S1024x256_0_0
abbrev rx1_1 : Rect S4096x2048 := Rect.unit (s := S4096x2048) ![1024, 0] S1024x2048.size inb_S4096x2048_S1024x2048_1024_0
abbrev rc1_1 : Rect S4096x16 := Rect.unit (s := S4096x16) ![1024, 0] S1024x16.size inb_S4096x16_S1024x16_1024_0
abbrev ro1_1 : Rect S4096x256 := Rect.unit (s := S4096x256) ![1024, 0] S1024x256.size inb_S4096x256_S1024x256_1024_0
abbrev rx1_2 : Rect S4096x2048 := Rect.unit (s := S4096x2048) ![2048, 0] S1024x2048.size inb_S4096x2048_S1024x2048_2048_0
abbrev rc1_2 : Rect S4096x16 := Rect.unit (s := S4096x16) ![2048, 0] S1024x16.size inb_S4096x16_S1024x16_2048_0
abbrev ro1_2 : Rect S4096x256 := Rect.unit (s := S4096x256) ![2048, 0] S1024x256.size inb_S4096x256_S1024x256_2048_0
abbrev rx1_3 : Rect S4096x2048 := Rect.unit (s := S4096x2048) ![3072, 0] S1024x2048.size inb_S4096x2048_S1024x2048_3072_0
abbrev rc1_3 : Rect S4096x16 := Rect.unit (s := S4096x16) ![3072, 0] S1024x16.size inb_S4096x16_S1024x16_3072_0
abbrev ro1_3 : Rect S4096x256 := Rect.unit (s := S4096x256) ![3072, 0] S1024x256.size inb_S4096x256_S1024x256_3072_0

/-! ## What one step leaves in each chunk of 1024 tokens -/

/-- Chunk 0 of the output block after a first step (`q = 0`): bias plus this step's four experts. -/
def stA1_0 (i : grid1.Coords) (x0 : Vec F S4096x2048 .bf16) (x1 : Vec F S4x256x2048 .f32) (x2 : Vec F S4096x16 .f32) (x3 : Vec F S16x256 .f32) : FVec F S1024x256 .f32 :=
  k1_pay13 (BitVec.ofNat 32 (i 1).val) (k1_pay5 (View.ld x1 rw1_1)) (k1_pay6 (View.ld x1 rw1_2)) (k1_pay7 (View.ld x1 rw1_3)) (k1_pay8 (View.ld x0 rx1_0)) (k1_pay9 (View.ld x2 rc1_0)) (iota .tc S1024x16 32 [1] iota_S1024x16_d1_w32) (k1_pay10 i (View.ld x1 rw1_0) (View.ld x0 rx1_0) (View.ld x2 rc1_0)) (k1_pay11 i (View.ld x2 rc1_0)) (View.ld x3 rb1)

/-- Chunk 0 of the output block after a later step: what it held (`y`) plus this step's four experts. -/
def stB1_0 (i : grid1.Coords) (x0 : Vec F S4096x2048 .bf16) (x1 : Vec F S4x256x2048 .f32) (x2 : Vec F S4096x16 .f32) (y : Vec F S1024x256 .f32) : FVec F S1024x256 .f32 :=
  k1_pay14 (BitVec.ofNat 32 (i 1).val) (k1_pay5 (View.ld x1 rw1_1)) (k1_pay6 (View.ld x1 rw1_2)) (k1_pay7 (View.ld x1 rw1_3)) (k1_pay8 (View.ld x0 rx1_0)) (k1_pay9 (View.ld x2 rc1_0)) (iota .tc S1024x16 32 [1] iota_S1024x16_d1_w32) (k1_pay10 i (View.ld x1 rw1_0) (View.ld x0 rx1_0) (View.ld x2 rc1_0)) (k1_pay11 i (View.ld x2 rc1_0)) y

/-- Chunk 1 of the output block after a first step (`q = 0`): bias plus this step's four experts. -/
def stA1_1 (i : grid1.Coords) (x0 : Vec F S4096x2048 .bf16) (x1 : Vec F S4x256x2048 .f32) (x2 : Vec F S4096x16 .f32) (x3 : Vec F S16x256 .f32) : FVec F S1024x256 .f32 :=
  k1_pay20 (k1_pay7 (View.ld x1 rw1_3)) (k1_pay15 (View.ld x0 rx1_1)) (k1_pay16 (View.ld x2 rc1_1)) (k1_pay17 (BitVec.ofNat 32 (i 1).val) (k1_pay4 (View.ld x1 rw1_0)) (k1_pay5 (View.ld x1 rw1_1)) (k1_pay6 (View.ld x1 rw1_2)) (k1_pay15 (View.ld x0 rx1_1)) (View.ld x2 rc1_1)) (k1_pay18 (BitVec.ofNat 32 (i 1).val)) (Scalar.ofBits .f32 0x00000000#32) (View.ld x3 rb1)

/-- Chunk 1 of the output block after a later step: what it held (`y`) plus this step's four experts. -/
def stB1_1 (i : grid1.Coords) (x0 : Vec F S4096x2048 .bf16) (x1 : Vec F S4x256x2048 .f32) (x2 : Vec F S4096x16 .f32) (y : Vec F S1024x256 .f32) : FVec F S1024x256 .f32 :=
  k1_pay21 (k1_pay7 (View.ld x1 rw1_3)) (k1_pay15 (View.ld x0 rx1_1)) (k1_pay16 (View.ld x2 rc1_1)) (k1_pay17 (BitVec.ofNat 32 (i 1).val) (k1_pay4 (View.ld x1 rw1_0)) (k1_pay5 (View.ld x1 rw1_1)) (k1_pay6 (View.ld x1 rw1_2)) (k1_pay15 (View.ld x0 rx1_1)) (View.ld x2 rc1_1)) (k1_pay18 (BitVec.ofNat 32 (i 1).val)) (Scalar.ofBits .f32 0x00000000#32) y

/-- Chunk 2 of the output block after a first step (`q = 0`): bias plus this step's four experts. -/
def stA1_2 (i : grid1.Coords) (x0 : Vec F S4096x2048 .bf16) (x1 : Vec F S4x256x2048 .f32) (x2 : Vec F S4096x16 .f32) (x3 : Vec F S16x256 .f32) : FVec F S1024x256 .f32 :=
  k1_pay27 (BitVec.ofNat 32 (i 1).val) (k1_pay5 (View.ld x1 rw1_1)) (k1_pay6 (View.ld x1 rw1_2)) (k1_pay7 (View.ld x1 rw1_3)) (k1_pay22 (View.ld x0 rx1_2)) (k1_pay23 (View.ld x2 rc1_2)) (iota .tc S1024x16 32 [1] iota_S1024x16_d1_w32) (k1_pay24 (BitVec.ofNat 32 (i 1).val) (k1_pay4 (View.ld x1 rw1_0)) (View.ld x0 rx1_2) (View.ld x2 rc1_2)) (k1_pay25 (BitVec.ofNat 32 (i 1).val) (View.ld x2 rc1_2)) (constant S1024x256 .f32 0x00000000#32) (View.ld x3 rb1)

/-- Chunk 2 of the output block after a later step: what it held (`y`) plus this step's four experts. -/
def stB1_2 (i : grid1.Coords) (x0 : Vec F S4096x2048 .bf16) (x1 : Vec F S4x256x2048 .f32) (x2 : Vec F S4096x16 .f32) (y : Vec F S1024x256 .f32) : FVec F S1024x256 .f32 :=
  k1_pay28 (BitVec.ofNat 32 (i 1).val) (k1_pay5 (View.ld x1 rw1_1)) (k1_pay6 (View.ld x1 rw1_2)) (k1_pay7 (View.ld x1 rw1_3)) (k1_pay22 (View.ld x0 rx1_2)) (k1_pay23 (View.ld x2 rc1_2)) (iota .tc S1024x16 32 [1] iota_S1024x16_d1_w32) (k1_pay24 (BitVec.ofNat 32 (i 1).val) (k1_pay4 (View.ld x1 rw1_0)) (View.ld x0 rx1_2) (View.ld x2 rc1_2)) (k1_pay25 (BitVec.ofNat 32 (i 1).val) (View.ld x2 rc1_2)) (constant S1024x256 .f32 0x00000000#32) y

/-- Chunk 3 of the output block after a first step (`q = 0`): bias plus this step's four experts. -/
def stA1_3 (i : grid1.Coords) (x0 : Vec F S4096x2048 .bf16) (x1 : Vec F S4x256x2048 .f32) (x2 : Vec F S4096x16 .f32) (x3 : Vec F S16x256 .f32) : FVec F S1024x256 .f32 :=
  k1_pay2 (k1_pay7 (View.ld x1 rw1_3)) (k1_pay29 (View.ld x0 rx1_3)) (k1_pay30 (View.ld x2 rc1_3)) (k1_pay31 (BitVec.ofNat 32 (i 1).val) (k1_pay4 (View.ld x1 rw1_0)) (k1_pay5 (View.ld x1 rw1_1)) (k1_pay6 (View.ld x1 rw1_2)) (k1_pay29 (View.ld x0 rx1_3)) (k1_pay30 (View.ld x2 rc1_3)) (iota .tc S1024x16 32 [1] iota_S1024x16_d1_w32) 4#32) (k1_pay32 (BitVec.ofNat 32 (i 1).val) (k1_pay30 (View.ld x2 rc1_3)) (iota .tc S1024x16 32 [1] iota_S1024x16_d1_w32)) (View.ld x3 rb1)

/-- Chunk 3 of the output block after a later step: what it held (`y`) plus this step's four experts. -/
def stB1_3 (i : grid1.Coords) (x0 : Vec F S4096x2048 .bf16) (x1 : Vec F S4x256x2048 .f32) (x2 : Vec F S4096x16 .f32) (y : Vec F S1024x256 .f32) : FVec F S1024x256 .f32 :=
  k1_pay3 (k1_pay7 (View.ld x1 rw1_3)) (k1_pay29 (View.ld x0 rx1_3)) (k1_pay31 (BitVec.ofNat 32 (i 1).val) (k1_pay4 (View.ld x1 rw1_0)) (k1_pay5 (View.ld x1 rw1_1)) (k1_pay6 (View.ld x1 rw1_2)) (k1_pay29 (View.ld x0 rx1_3)) (k1_pay30 (View.ld x2 rc1_3)) (iota .tc S1024x16 32 [1] iota_S1024x16_d1_w32) 4#32) (k1_pay32 (BitVec.ofNat 32 (i 1).val) (k1_pay30 (View.ld x2 rc1_3)) (iota .tc S1024x16 32 [1] iota_S1024x16_d1_w32)) y

/-- The output block after a first step. -/
def out1_A (i : grid1.Coords) (x0 : Vec F S4096x2048 .bf16) (x1 : Vec F S4x256x2048 .f32) (x2 : Vec F S4096x16 .f32) (x3 : Vec F S16x256 .f32) : Vec F S4096x256 .f32 :=
  View.canon [⟨ro1_3, stA1_3 i x0 x1 x2 x3⟩, ⟨ro1_2, stA1_2 i x0 x1 x2 x3⟩, ⟨ro1_1, stA1_1 i x0 x1 x2 x3⟩, ⟨ro1_0, stA1_0 i x0 x1 x2 x3⟩]

/-- The output block after a later step, from what it held. -/
def out1_B (i : grid1.Coords) (x0 : Vec F S4096x2048 .bf16) (x1 : Vec F S4x256x2048 .f32) (x2 : Vec F S4096x16 .f32) (y : Vec F S4096x256 .f32) : Vec F S4096x256 .f32 :=
  View.canon [⟨ro1_3, stB1_3 i x0 x1 x2 (View.ld y ro1_3)⟩, ⟨ro1_2, stB1_2 i x0 x1 x2 (View.ld y ro1_2)⟩, ⟨ro1_1, stB1_1 i x0 x1 x2 (View.ld y ro1_1)⟩, ⟨ro1_0, stB1_0 i x0 x1 x2 (View.ld y ro1_0)⟩]

/-- The four chunks cover the block. -/
theorem cover1 (p3 p2 p1 p0 : Vec F S1024x256 .f32) (y : S4096x256.Idx) :
    ∃ pc ∈ ([⟨ro1_3, p3⟩, ⟨ro1_2, p2⟩, ⟨ro1_1, p1⟩, ⟨ro1_0, p0⟩] : List (View.Piece (Elt F) S4096x256 .f32)), y ∈ pc.1.set :=
  View.cover_of_tiled [⟨ro1_3, p3⟩, ⟨ro1_2, p2⟩, ⟨ro1_1, p1⟩, ⟨ro1_0, p0⟩] S1024x256.size (by rfl) y

/-! ## The branch conditions in closed form -/

theorem hcond1_0 (t : Fin cfg1.N) : k1_cond1 (grid1.coords t) = 1#1 ↔ t.val % 4 = 0 := by
  have ht : t.val < 32 := Nat.lt_of_lt_of_eq t.isLt N_1
  have e0 : (grid1.coords t 0).val = t.val / 4 % 8 := Pipeline.Grid.coords_val t 0 (by decide) rfl
  have e1 : (grid1.coords t 1).val = t.val / 1 % 4 := Pipeline.Grid.coords_val t 1 (by decide) rfl
  simp only [k1_cond1, e0, e1]
  word_cmp

theorem hcond1_1 (t : Fin cfg1.N) : k1_cond2 (grid1.coords t) = 1#1 ↔ 1 ≤ t.val % 4 := by
  have ht : t.val < 32 := Nat.lt_of_lt_of_eq t.isLt N_1
  have e0 : (grid1.coords t 0).val = t.val / 4 % 8 := Pipeline.Grid.coords_val t 0 (by decide) rfl
  have e1 : (grid1.coords t 1).val = t.val / 1 % 4 := Pipeline.Grid.coords_val t 1 (by decide) rfl
  simp only [k1_cond2, e0, e1]
  word_cmp

theorem hcond1_2 (t : Fin cfg1.N) : k1_cond3 (grid1.coords t) = 1#1 ↔ t.val % 4 = 0 := by
  have ht : t.val < 32 := Nat.lt_of_lt_of_eq t.isLt N_1
  have e0 : (grid1.coords t 0).val = t.val / 4 % 8 := Pipeline.Grid.coords_val t 0 (by decide) rfl
  have e1 : (grid1.coords t 1).val = t.val / 1 % 4 := Pipeline.Grid.coords_val t 1 (by decide) rfl
  simp only [k1_cond3, e0, e1]
  word_cmp

theorem hcond1_3 (t : Fin cfg1.N) : k1_cond4 (grid1.coords t) = 1#1 ↔ 1 ≤ t.val % 4 := by
  have ht : t.val < 32 := Nat.lt_of_lt_of_eq t.isLt N_1
  have e0 : (grid1.coords t 0).val = t.val / 4 % 8 := Pipeline.Grid.coords_val t 0 (by decide) rfl
  have e1 : (grid1.coords t 1).val = t.val / 1 % 4 := Pipeline.Grid.coords_val t 1 (by decide) rfl
  simp only [k1_cond4, e0, e1]
  word_cmp

theorem hcond1_4 (t : Fin cfg1.N) : k1_cond5 (grid1.coords t) = 1#1 ↔ t.val % 4 = 0 := by
  have ht : t.val < 32 := Nat.lt_of_lt_of_eq t.isLt N_1
  have e0 : (grid1.coords t 0).val = t.val / 4 % 8 := Pipeline.Grid.coords_val t 0 (by decide) rfl
  have e1 : (grid1.coords t 1).val = t.val / 1 % 4 := Pipeline.Grid.coords_val t 1 (by decide) rfl
  simp only [k1_cond5, e0, e1]
  word_cmp

theorem hcond1_5 (t : Fin cfg1.N) : k1_cond6 (grid1.coords t) = 1#1 ↔ 1 ≤ t.val % 4 := by
  have ht : t.val < 32 := Nat.lt_of_lt_of_eq t.isLt N_1
  have e0 : (grid1.coords t 0).val = t.val / 4 % 8 := Pipeline.Grid.coords_val t 0 (by decide) rfl
  have e1 : (grid1.coords t 1).val = t.val / 1 % 4 := Pipeline.Grid.coords_val t 1 (by decide) rfl
  simp only [k1_cond6, e0, e1]
  word_cmp

theorem hcond1_6 (t : Fin cfg1.N) : k1_cond7 (grid1.coords t) = 1#1 ↔ t.val % 4 = 0 := by
  have ht : t.val < 32 := Nat.lt_of_lt_of_eq t.isLt N_1
  have e0 : (grid1.coords t 0).val = t.val / 4 % 8 := Pipeline.Grid.coords_val t 0 (by decide) rfl
  have e1 : (grid1.coords t 1).val = t.val / 1 % 4 := Pipeline.Grid.coords_val t 1 (by decide) rfl
  simp only [k1_cond7, e0, e1]
  word_cmp

theorem hcond1_7 (t : Fin cfg1.N) : k1_cond8 (grid1.coords t) = 1#1 ↔ 1 ≤ t.val % 4 := by
  have ht : t.val < 32 := Nat.lt_of_lt_of_eq t.isLt N_1
  have e0 : (grid1.coords t 0).val = t.val / 4 % 8 := Pipeline.Grid.coords_val t 0 (by decide) rfl
  have e1 : (grid1.coords t 1).val = t.val / 1 % 4 := Pipeline.Grid.coords_val t 1 (by decide) rfl
  simp only [k1_cond8, e0, e1]
  word_cmp

set_option maxHeartbeats 2000000 in
/-- The body's triple at a first step. -/
theorem sound_kernel1_A (c : Dev nD) (E : Set ℕ) (i : grid1.Coords) (arg2 : Memref sig .tc .vmem S4096x2048 .bf16) (harg2 : arg2.IsWhole) (arg3 : Memref sig .tc .vmem S4x256x2048 .f32) (harg3 : arg3.IsWhole) (arg4 : Memref sig .tc .vmem S4096x16 .f32) (harg4 : arg4.IsWhole) (arg5 : Memref sig .tc .vmem S16x256 .f32) (harg5 : arg5.IsWhole) (arg6 : Memref sig .tc .vmem S4096x256 .f32) (harg6 : arg6.IsWhole) (hc0 : k1_cond1 i = 1#1) (hc1 : ¬k1_cond2 i = 1#1) (hc2 : k1_cond3 i = 1#1) (hc3 : ¬k1_cond4 i = 1#1) (hc4 : k1_cond5 i = 1#1) (hc5 : ¬k1_cond6 i = 1#1) (hc6 : k1_cond7 i = 1#1) (hc7 : ¬k1_cond8 i = 1#1)
    (x0 : Vec F S4096x2048 .bf16) (x1 : Vec F S4x256x2048 .f32) (x2 : Vec F S4096x16 .f32) (x3 : Vec F S16x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (out1_A i x0 x1 x2 x3)) -∗ K ⟨⟩))
      ⊢ wp frame (wpE (defs₀ (F := F)) Variants.none c none) E (cc1__expert_body i arg2 harg2 arg3 harg3 arg4 harg4 arg5 harg5 arg6 harg6) K := by
  simp only [cc1__expert_body_eq_skeleton]; unfold cc1__expert_body_skel
  simp only [k1_part1_eq_skeleton, k1_part2_eq_skeleton, k1_part3_eq_skeleton, k1_part4_eq_skeleton, k1_part5_eq_skeleton, k1_part6_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec (disch := first | sl_exact hc0 | sl_exact hc1 | sl_exact hc2 | sl_exact hc3 | sl_exact hc4 | sl_exact hc5 | sl_exact hc6 | sl_exact hc7)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  refine (View.read_writes_eq_canon _ _ _ (cover1 _ _ _ _)).trans ?_
  rfl

set_option maxHeartbeats 2000000 in
/-- The body's triple at a later step. -/
theorem sound_kernel1_B (c : Dev nD) (E : Set ℕ) (i : grid1.Coords) (arg2 : Memref sig .tc .vmem S4096x2048 .bf16) (harg2 : arg2.IsWhole) (arg3 : Memref sig .tc .vmem S4x256x2048 .f32) (harg3 : arg3.IsWhole) (arg4 : Memref sig .tc .vmem S4096x16 .f32) (harg4 : arg4.IsWhole) (arg5 : Memref sig .tc .vmem S16x256 .f32) (harg5 : arg5.IsWhole) (arg6 : Memref sig .tc .vmem S4096x256 .f32) (harg6 : arg6.IsWhole) (hc0 : ¬k1_cond1 i = 1#1) (hc1 : k1_cond2 i = 1#1) (hc2 : ¬k1_cond3 i = 1#1) (hc3 : k1_cond4 i = 1#1) (hc4 : ¬k1_cond5 i = 1#1) (hc5 : k1_cond6 i = 1#1) (hc6 : ¬k1_cond7 i = 1#1) (hc7 : k1_cond8 i = 1#1)
    (x0 : Vec F S4096x2048 .bf16) (x1 : Vec F S4x256x2048 .f32) (x2 : Vec F S4096x16 .f32) (x3 : Vec F S16x256 .f32) (y : Vec F S4096x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare y
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (out1_B i x0 x1 x2 y)) -∗ K ⟨⟩))
      ⊢ wp frame (wpE (defs₀ (F := F)) Variants.none c none) E (cc1__expert_body i arg2 harg2 arg3 harg3 arg4 harg4 arg5 harg5 arg6 harg6) K := by
  simp only [cc1__expert_body_eq_skeleton]; unfold cc1__expert_body_skel
  simp only [k1_part1_eq_skeleton, k1_part2_eq_skeleton, k1_part3_eq_skeleton, k1_part4_eq_skeleton, k1_part5_eq_skeleton, k1_part6_eq_skeleton]
  unfold owns
  iintro ⟨⟨%f0, %hf0, H0⟩, ⟨%f1, %hf1, H1⟩, ⟨%f2, %hf2, H2⟩, ⟨%f3, %hf3, H3⟩, ⟨%f4, %hf4, H4⟩, Hk⟩
  subst hf0 hf1 hf2 hf3 hf4
  sl_exec (disch := first | sl_exact hc0 | sl_exact hc1 | sl_exact hc2 | sl_exact hc3 | sl_exact hc4 | sl_exact hc5 | sl_exact hc6 | sl_exact hc7)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  refine (View.read_writes_eq_canon _ _ _ (cover1 _ _ _ _)).trans ?_
  rfl

end Cert.KernelIdeal.Run

end
-- ==== Proof.Ideal.Experts.lean ====
/- The experts region of the kernel: its proof data and its body obligation, at any entry contents. -/
module

public import proofs.«01_k».proof.Proof.Ideal.ExpertsBody

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def freshTab1_4 : ℕ → Bool
  | 0 => true
  | n + 1 => (0x88888888 : ℕ).testBit n

theorem freshTab1_4_step : ∀ t : Fin cfg1.N,
    freshTab1_4 (t.val + 1) = ((cfg1.win 4).flush t || (cfg1.idle 4 (cfg1.grid.coords t) && freshTab1_4 t.val)) := by decide +kernel

theorem fresh1_4_eq (t : Fin cfg1.N) : cfg1.fresh 4 t.val = freshTab1_4 t.val :=
  Pipeline.Cfg.fresh_tab cfg1 4 freshTab1_4 rfl freshTab1_4_step t.val (Nat.le_of_lt t.isLt)

theorem freshTab1_4_later : ∀ t : Fin 32, ¬ t.val % 4 = 0 → freshTab1_4 t.val = false := by decide +kernel

/-- At a later step the output window's buffer still holds what the step before stored. -/
theorem notFresh1_4 (t : Fin cfg1.N) (h : ¬ t.val % 4 = 0) : cfg1.fresh 4 t.val = false := by
  rw [fresh1_4_eq t]
  exact freshTab1_4_later ⟨t.val, Nat.lt_of_lt_of_eq t.isLt N_1⟩ h

theorem live1_4 : ∀ t : Fin cfg1.N, cfg1.idle 4 (grid1.coords t) = false := by decide +kernel
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl

/-- What the output window's buffer holds after each grid point: a first step starts it, a later step adds to it. -/
def outsAt1 (c : Dev nD) : (n : ℕ) → n < cfg1.N → Vec F S4096x256 .f32
  | 0, h => out1_A (grid1.coords ⟨0, h⟩) (iblk1 V c 0 ⟨0, h⟩) (iblk1 V c 1 ⟨0, h⟩) (iblk1 V c 2 ⟨0, h⟩) (iblk1 V c 3 ⟨0, h⟩)
  | n + 1, h =>
    if (n + 1) % 4 = 0 then out1_A (grid1.coords ⟨n + 1, h⟩) (iblk1 V c 0 ⟨n + 1, h⟩) (iblk1 V c 1 ⟨n + 1, h⟩) (iblk1 V c 2 ⟨n + 1, h⟩) (iblk1 V c 3 ⟨n + 1, h⟩)
    else out1_B (grid1.coords ⟨n + 1, h⟩) (iblk1 V c 0 ⟨n + 1, h⟩) (iblk1 V c 1 ⟨n + 1, h⟩) (iblk1 V c 2 ⟨n + 1, h⟩) (outsAt1 c n (Nat.lt_of_succ_lt h))

theorem outsAt1_A (c : Dev nD) (t : Fin cfg1.N) (h : t.val % 4 = 0) :
    outsAt1 V c t.val t.isLt = out1_A (grid1.coords t) (iblk1 V c 0 t) (iblk1 V c 1 t) (iblk1 V c 2 t) (iblk1 V c 3 t) := by
  obtain ⟨n, hn⟩ := t
  cases n with
  | zero => rfl
  | succ n => exact if_pos h

theorem outsAt1_B (c : Dev nD) (t : Fin cfg1.N) (h : ¬ t.val % 4 = 0) :
    outsAt1 V c t.val t.isLt = out1_B (grid1.coords t) (iblk1 V c 0 t) (iblk1 V c 1 t) (iblk1 V c 2 t)
      (outsAt1 V c (t.val - 1) (Nat.lt_of_le_of_lt (Nat.sub_le _ _) t.isLt)) := by
  obtain ⟨n, hn⟩ := t
  cases n with
  | zero => exact absurd rfl h
  | succ n => exact if_neg h

/-- The pipeline's proof data over the entry contents `V`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => outsAt1 V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = outsAt1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

theorem hcarry1_4 (c : Dev nD) : ∀ (t : Fin cfg1.N) (_ : t.val ≠ 0), cfg1.idle 4 (grid1.coords t) = true → cfg1.fresh 4 t.val = false →
    (dat1 V c).after 4 t = (dat1 V c).after 4 ⟨t.val - 1, by omega⟩ := by
  intro t _ hi _
  rw [live1_4 t] at hi
  exact absurd hi Bool.false_ne_true

/-- At a later step the output window's buffer holds what the step before left. -/
theorem before1_4 (c : Dev nD) (t : Fin cfg1.N) (h : ¬ t.val % 4 = 0) (d) :
    (dat1 V c).before 4 t d = outsAt1 V c (t.val - 1) (Nat.lt_of_le_of_lt (Nat.sub_le _ _) t.isLt) := by
  rw [Dat.before_out_traj _ 4 rfl (fun _ _ => rfl) (hcarry1_4 V c) t.val t rfl d,
    if_neg (by rw [notFresh1_4 t h]; exact Bool.false_ne_true)]
  dsimp only [dat1]

abbrev ms1_0 (t : Fin cfg1.N) : Memref sig .tc .vmem S4096x2048 .bf16 := win1_0.stage (cfg1.slots t 0)
abbrev ms1_1 (t : Fin cfg1.N) : Memref sig .tc .vmem S4x256x2048 .f32 := win1_1.stage (cfg1.slots t 1)
abbrev ms1_2 (t : Fin cfg1.N) : Memref sig .tc .vmem S4096x16 .f32 := win1_2.stage (cfg1.slots t 2)
abbrev ms1_3 (t : Fin cfg1.N) : Memref sig .tc .vmem S16x256 .f32 := win1_3.stage (cfg1.slots t 3)
abbrev ms1_4 (t : Fin cfg1.N) : Memref sig .tc .vmem S4096x256 .f32 := win1_4.stage (cfg1.slots t 4)

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [live1_4 t], after1_4]
  by_cases h : t.val % 4 = 0
  · rw [outsAt1_A V c t h]
    iintro ⟨HΦ, Ho, ⟨%d0, H0⟩, ⟨%d1, H1⟩, ⟨%d2, H2⟩, ⟨%d3, H3⟩, ⟨%d4, H4⟩⟩
    iapply (sound_kernel1_A c Set.univ (grid1.coords t) _ _ _ _ _ _ _ _ _ _ ((hcond1_0 t).mpr h) (fun h' => by have := (hcond1_1 t).mp h'; omega) ((hcond1_2 t).mpr h) (fun h' => by have := (hcond1_3 t).mp h'; omega) ((hcond1_4 t).mpr h) (fun h' => by have := (hcond1_5 t).mp h'; omega) ((hcond1_6 t).mpr h) (fun h' => by have := (hcond1_7 t).mp h'; omega) (iblk1 V c 0 t) (iblk1 V c 1 t) (iblk1 V c 2 t) (iblk1 V c 3 t) _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [outsAt1_B V c t h]
    simp only [before1_4 V c t h]
    iintro ⟨HΦ, Ho, ⟨%d0, H0⟩, ⟨%d1, H1⟩, ⟨%d2, H2⟩, ⟨%d3, H3⟩, ⟨%d4, H4⟩⟩
    iapply (sound_kernel1_B c Set.univ (grid1.coords t) _ _ _ _ _ _ _ _ _ _ (fun h' => h ((hcond1_0 t).mp h')) ((hcond1_1 t).mpr (by omega)) (fun h' => h ((hcond1_2 t).mp h')) ((hcond1_3 t).mpr (by omega)) (fun h' => h ((hcond1_4 t).mp h')) ((hcond1_5 t).mpr (by omega)) (fun h' => h ((hcond1_6 t).mp h')) ((hcond1_7 t).mpr (by omega)) (iblk1 V c 0 t) (iblk1 V c 1 t) (iblk1 V c 2 t) (iblk1 V c 3 t) _ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

theorem defs₀_row1 (t : Fin cfg1.N) :
    defs₀ (F := F) .tc cfg1.body (cfg1.bodyArgs t (cfg1.slots t)) = bodyAt1 t := by
  unfold defs₀; rw [Defs.onTc_tc]

/-- The body obligation at every grid point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Run

end
-- ==== Proof.Ideal.Whole.lean ====
/- The kernel's whole run: the reshapes, the router, the experts, the last reshape; what every buffer holds at the end. -/
module

public import proofs.«01_k».proof.Proof.Ideal.Router
public import proofs.«01_k».proof.Proof.Ideal.Experts

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The argument arrays. -/
abbrev argRefs : List (Ref sig .tc) := [main_arg0, main_arg1, main_arg2, main_arg3, main_arg4]

theorem hostOps0_fresh : (hostOps0 : List (HloOp τ sig (Elt F))).Forall fun op => op.fresh = ∅ := by
  simp only [List.Forall]; repeat' constructor
abbrev hostOps0_W : List (Ref sig .tc) := [main_v0, main_v1]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

theorem hostOps2_fresh : (hostOps2 : List (HloOp τ sig (Elt F))).Forall fun op => op.fresh = ∅ := by
  simp only [List.Forall]; repeat' constructor
abbrev hostOps2_W : List (Ref sig .tc) := [main_v4]
theorem hostOps2_writes : (hostOps2 : List (HloOp τ sig (Elt F))).Forall fun op => op.writes ⊆ (hostOps2_W.map (Proc.devRef (τ := τ) .tc)).toFinset :=
  StableHlo.forall_writes_sub_of_map rfl
theorem hostOps2_args : ∀ a ∈ argRefs, a ∉ hostOps2_W := ListAll.forall_mem_of_all_decide (by decide +kernel)

/-- The buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- The buffers after the two reshapes before the router. -/
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
abbrev V1 : (c : Dev nD) → (b : Ref sig .tc) → Buf (Elt F) ((c : Thread nD τ).loc b) := fun c b => W1 m ρ c b
/-- The buffers after the router. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- The buffers after the experts. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- The buffers at the return. -/
abbrev W4 : Dev nD → Valuation τ sig (Elt F) := fun c => StableHlo.after hostOps2 (W3 m ρ c)
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
theorem W4_args (c : Dev nD) : ∀ a ∈ argRefs, W4 m ρ c (Proc.devRef .tc a) = m ((c : Thread nD τ).loc a) :=
  fun a ha => (W4_of m ρ c a (hostOps2_args a ha)).trans (W3_args m ρ c a ha)

theorem W4_main_arg0 (c : Dev nD) : W4 m ρ c (Proc.devRef .tc main_arg0) = m ((c : Thread nD τ).loc main_arg0) :=
  W4_args m ρ c main_arg0 (by decide)
theorem W4_main_arg1 (c : Dev nD) : W4 m ρ c (Proc.devRef .tc main_arg1) = m ((c : Thread nD τ).loc main_arg1) :=
  W4_args m ρ c main_arg1 (by decide)
theorem W4_main_arg2 (c : Dev nD) : W4 m ρ c (Proc.devRef .tc main_arg2) = m ((c : Thread nD τ).loc main_arg2) :=
  W4_args m ρ c main_arg2 (by decide)
theorem W4_main_arg3 (c : Dev nD) : W4 m ρ c (Proc.devRef .tc main_arg3) = m ((c : Thread nD τ).loc main_arg3) :=
  W4_args m ρ c main_arg3 (by decide)
theorem W4_main_arg4 (c : Dev nD) : W4 m ρ c (Proc.devRef .tc main_arg4) = m ((c : Thread nD τ).loc main_arg4) :=
  W4_args m ρ c main_arg4 (by decide)

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

set_option backward.isDefEq.respectTransparency.types false in
/-- The router as a segment of the run. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The experts as a segment of the run. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
theorem main_run (c : Dev nD) : main (F := F) c = Pipeline.Seg.run (segs m ρ) := (main_chain c).trans (by chain_rfl)

theorem no_unscoped : ∀ sm : SemLoc sig, sm.isScoped .tc = true := by decide
set_option backward.isDefEq.respectTransparency.types false in
/-- The whole run: it ends, every buffer outside the calls' scopes holds what the fold says, every counter is zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W4 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

/-- What the fold says of one argument array: it is as launched. -/
theorem run_arg {s : MemSt nD τ sig (Elt F)} {c : Dev nD} (h : ∀ b ∈ Pipeline.ucRefs τ sig, s.mem (((c : Thread nD τ)).1, b) = W4 m ρ c b)
    (a : Ref sig .tc) (ha : a ∈ argRefs) (hs : ¬ (Proc.devRef .tc a : DevRef τ sig).isScoped) :
    s.mem ((c.tc : Thread nD τ).loc a) = m ((c.tc : Thread nD τ).loc a) :=
  (h _ (mem_uc a hs)).trans (W4_args m ρ c a ha)

/-- The frame: the run ends with every argument array as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c =>
    ⟨run_arg m ρ (h.1 c) main_arg0 (by decide) (by decide), run_arg m ρ (h.1 c) main_arg1 (by decide) (by decide),
     run_arg m ρ (h.1 c) main_arg2 (by decide) (by decide), run_arg m ρ (h.1 c) main_arg3 (by decide) (by decide),
     run_arg m ρ (h.1 c) main_arg4 (by decide) (by decide)⟩, h.2⟩) (run_all m ρ)

end Cert.KernelIdeal.Run

end
-- ==== Proof.Ideal.Select.lean ====
/- The choice of the eight greatest entries of a row of sixteen: repeated maximum with the smallest index
   against the stable descending sort. -/
module

public import Idealize.ShloMosaic.Lib.SortFacts
public import Idealize.ShloMosaic.Lib.Pointwise
public import Idealize.ShloMosaic.Lib.IdealHost
public import Idealize.ShloMosaic.Lib.WordArith

@[expose] public section

noncomputable section

set_option maxRecDepth 16384

open Idealize.ShloMosaic

namespace Cert.MoE

/-- The kernel's marker of an entry already taken. -/
def taken : EReal := Ideal.ofBits .f32 3212836864#32
/-- The start of a running maximum. -/
def lowest : EReal := Ideal.ofBits .f32 4286578688#32

theorem taken_eq : taken = ((-(1 : ℝ) : ℝ) : EReal) := by
  unfold taken
  simp [Ideal.ofBits, Ideal.ieee, -EReal.coe_mul, -EReal.coe_neg]; norm_num

theorem lowest_eq : lowest = ⊥ := by
  unfold lowest
  simp [Ideal.ofBits, Ideal.ieee]

/-- The greatest entry of a row. -/
def rowMax (w : Fin 16 → EReal) : EReal := Finset.univ.fold max lowest w
/-- The first position of the greatest entry, as a word. -/
def rowArg (w : Fin 16 → EReal) : BitVec 32 :=
  Finset.univ.fold IntOp.minsi 2147483647#32 (fun l : Fin 16 => if w l = rowMax w then BitVec.ofNat 32 ↑l else 16#32)

theorem rowMax_eq (w : Fin 16 → EReal) (s : Fin 16) (h : ∀ r, w r ≤ w s) : rowMax w = w s := by
  unfold rowMax
  refine le_antisymm ?_ ?_
  · exact Finset.fold_max_le _ |>.mpr ⟨by rw [lowest_eq]; exact bot_le, fun r _ => h r⟩
  · exact Finset.le_fold_max _ |>.mpr (Or.inr ⟨s, Finset.mem_univ _, le_refl _⟩)

theorem toNat_ofNat16 (k : Fin 16) : (BitVec.ofNat 32 (k : ℕ)).toNat = k := by
  rw [BitVec.toNat_ofNat]; exact Nat.mod_eq_of_lt (by have := k.isLt; omega)

theorem ofNat16_inj (a b : Fin 16) : BitVec.ofNat 32 (a : ℕ) = BitVec.ofNat 32 (b : ℕ) ↔ a = b := by
  constructor
  · intro h
    have := congrArg BitVec.toNat h
    rw [toNat_ofNat16, toNat_ofNat16] at this
    exact Fin.ext this
  · rintro rfl; rfl

/-- A running signed minimum of small words is one of them, and below them all. -/
theorem fold_minsi (f : Fin 16 → BitVec 32) (hf : ∀ k, (f k).toNat < 2 ^ 31) (S : Finset (Fin 16)) :
    (S.fold IntOp.minsi 2147483647#32 f).toNat < 2 ^ 31
    ∧ (∀ k ∈ S, (S.fold IntOp.minsi 2147483647#32 f).toNat ≤ (f k).toNat)
    ∧ (S.fold IntOp.minsi 2147483647#32 f = 2147483647#32 ∨ ∃ k ∈ S, S.fold IntOp.minsi 2147483647#32 f = f k) := by
  classical
  induction S using Finset.induction_on with
  | empty => simp
  | insert a S ha ih =>
    obtain ⟨h1, h2, h3⟩ := ih
    rw [Finset.fold_insert ha]
    have hm := WordArith.toNat_minsi_of_lt (f a) _ (hf a) h1
    refine ⟨by rw [hm]; exact lt_of_le_of_lt (min_le_left _ _) (hf a), ?_, ?_⟩
    · intro k hk
      rw [hm]
      rcases Finset.mem_insert.mp hk with rfl | hk
      · exact min_le_left _ _
      · exact (min_le_right _ _).trans (h2 k hk)
    · have : IntOp.minsi (f a) (S.fold IntOp.minsi 2147483647#32 f) = f a
          ∨ IntOp.minsi (f a) (S.fold IntOp.minsi 2147483647#32 f) = S.fold IntOp.minsi 2147483647#32 f := by
        unfold IntOp.minsi; split <;> simp
      rcases this with h | h
      · exact Or.inr ⟨a, Finset.mem_insert_self _ _, h⟩
      · rw [h]
        rcases h3 with h3 | ⟨k, hk, h3⟩
        · exact Or.inl h3
        · exact Or.inr ⟨k, Finset.mem_insert_of_mem hk, h3⟩

theorem rowArg_eq (w : Fin 16 → EReal) (s : Fin 16) (h : ∀ r, r ≠ s → w r < w s ∨ (w r = w s ∧ s < r)) :
    rowArg w = BitVec.ofNat 32 (s : ℕ) := by
  have hle : ∀ r, w r ≤ w s := fun r => by
    by_cases hr : r = s
    · rw [hr]
    · rcases h r hr with h | h
      · exact h.le
      · exact h.1.le
  have hm := rowMax_eq w s hle
  unfold rowArg
  rw [hm]
  obtain ⟨h1, h2, h3⟩ := fold_minsi (fun l : Fin 16 => if w l = w s then BitVec.ofNat 32 (l : ℕ) else 16#32)
    (fun k => by
      split
      · rw [toNat_ofNat16]; have := k.isLt; omega
      · decide) Finset.univ
  have hs := h2 s (Finset.mem_univ _)
  rw [if_pos rfl, toNat_ofNat16] at hs
  rcases h3 with h3 | ⟨k, -, h3⟩
  · rw [h3] at hs
    have := s.isLt
    simp at hs; omega
  · rw [h3] at hs ⊢
    by_cases hk : w k = w s
    · rw [if_pos hk] at hs ⊢
      rw [toNat_ofNat16] at hs
      by_cases hks : k = s
      · rw [hks]
      · rcases h k hks with h | h
        · exact absurd hk h.ne
        · exact absurd h.2 (not_lt.mpr hs)
    · rw [if_neg hk] at hs
      have := s.isLt
      simp at hs; omega

/-! ## The stable descending sort -/

/-- The positions of a row, greatest first, equal entries in index order. -/
def Sorted (p : Fin 16 → EReal) (σ : Fin 16 → Fin 16) : Prop :=
  Function.Injective σ ∧ ∀ i j, i < j → p (σ j) < p (σ i) ∨ (p (σ j) = p (σ i) ∧ σ i < σ j)

/-- `b` comes after `a`. -/
def After (p : Fin 16 → EReal) (a b : Fin 16) : Prop := p b < p a ∨ (p b = p a ∧ a < b)

theorem After.trans {p : Fin 16 → EReal} {a b c : Fin 16} (h : After p a b) (h' : After p b c) : After p a c := by
  rcases h with h | ⟨h, e⟩ <;> rcases h' with h' | ⟨h', e'⟩
  · exact Or.inl (h'.trans h)
  · exact Or.inl (h' ▸ h)
  · exact Or.inl (h ▸ h')
  · exact Or.inr ⟨h'.trans h, e.trans e'⟩

theorem pairwise_insert (p : Fin 16 → EReal) (R : Fin 16 → Fin 16 → Bool) (hR : ∀ a b, R a b = true ↔ p b < p a)
    (a : Fin 16) (l : List (Fin 16)) (hal : ∀ b ∈ l, a < b) (hl : l.Pairwise (After p)) :
    (insertBefore R a l).Pairwise (After p) := by
  induction l with
  | nil => exact List.pairwise_singleton _ _
  | cons b l ih =>
    rw [List.pairwise_cons] at hl
    unfold insertBefore
    have hab : a < b := hal b List.mem_cons_self
    split
    · rename_i h
      refine List.pairwise_cons.mpr ⟨fun c hc => ?_, ih (fun c hc => hal c (List.mem_cons_of_mem b hc)) hl.2⟩
      rcases List.mem_cons.mp ((perm_insertBefore R a l).mem_iff.mp hc) with rfl | hc'
      · exact Or.inl ((hR _ _).mp h)
      · exact hl.1 c hc'
    · rename_i h
      have hba : p b ≤ p a := not_lt.mp fun h' => h ((hR _ _).mpr h')
      have hA : After p a b := by
        rcases lt_or_eq_of_le hba with h | h
        · exact Or.inl h
        · exact Or.inr ⟨h, hab⟩
      refine List.pairwise_cons.mpr ⟨fun c hc => ?_, List.pairwise_cons.mpr hl⟩
      rcases List.mem_cons.mp hc with rfl | hc'
      · exact hA
      · exact hA.trans (hl.1 c hc')

theorem pairwise_sort (p : Fin 16 → EReal) (R : Fin 16 → Fin 16 → Bool) (hR : ∀ a b, R a b = true ↔ p b < p a)
    (l : List (Fin 16)) (hl : l.Pairwise (· < ·)) : (stableSort R l).Pairwise (After p) := by
  induction l with
  | nil => exact List.Pairwise.nil
  | cons a l ih =>
    rw [List.pairwise_cons] at hl
    unfold stableSort
    exact pairwise_insert p R hR a _ (fun b hb => hl.1 b ((perm_stableSort R l).mem_iff.mp hb)) (ih hl.2)

theorem sorted_sortedFrom (p : Fin 16 → EReal) (R : Fin 16 → Fin 16 → Bool) (hR : ∀ a b, R a b = true ↔ p b < p a) :
    Sorted p (sortedFrom R) := by
  refine ⟨sortedFrom_injective R, fun i j hij => ?_⟩
  have hp : ∀ a b : Fin (sortPositions 16 R).length, a < b →
      After p ((sortPositions 16 R).get a) ((sortPositions 16 R).get b) :=
    List.pairwise_iff_get.mp (pairwise_sort p R hR (List.finRange 16) (List.pairwise_lt_finRange 16))
  unfold sortedFrom
  exact hp _ _ (by simp only [Fin.lt_def, Fin.val_cast]; exact hij)

/-- The comparator of the reference's top-k on a row. -/
def greater (p : Fin 16 → EReal) (k k' : Fin 16) : Bool := FloatOps.cmpfTotal (F := Ideal) (φ := .f32) .gt (p k) (p k') == 1#1

theorem greater_iff (p : Fin 16 → EReal) (a b : Fin 16) : greater p a b = true ↔ p b < p a := by
  unfold greater
  rw [beq_iff_eq]
  show Ideal.cmpTotal .gt (p a) (p b) = 1#1 ↔ _
  show BitVec.ofBool (decide (p b < p a)) = 1#1 ↔ _
  by_cases h : p b < p a <;> simp [h]

/-- The row's order. -/
def order (p : Fin 16 → EReal) : Fin 16 → Fin 16 := sortedFrom (greater p)

theorem order_sorted (p : Fin 16 → EReal) : Sorted p (order p) := sorted_sortedFrom p _ (greater_iff p)

/-! ## The rounds -/

theorem cmpi_ne {a b : Fin 16} (h : a ≠ b) :
    IntOp.cmpi CmpIPredicate.eq (BitVec.ofNat 32 (a : ℕ)) (BitVec.ofNat 32 (b : ℕ)) = 0#1 := by
  have : (BitVec.ofNat 32 (a : ℕ) == BitVec.ofNat 32 (b : ℕ)) = false := by
    rw [beq_eq_false_iff_ne]
    exact fun e => h ((ofNat16_inj a b).mp e)
  show BitVec.ofBool (BitVec.ofNat 32 (a : ℕ) == BitVec.ofNat 32 (b : ℕ)) = 0#1
  rw [this]; rfl

/-- The entry is among the first `n` of the order. -/
def Chosen (σ : Fin 16 → Fin 16) (n : ℕ) (l : Fin 16) : Prop := ∃ j : Fin 16, (j : ℕ) < n ∧ σ j = l

instance (σ : Fin 16 → Fin 16) (n : ℕ) (l : Fin 16) : Decidable (Chosen σ n l) :=
  inferInstanceAs (Decidable (∃ j : Fin 16, (j : ℕ) < n ∧ σ j = l))

theorem not_chosen_zero (σ : Fin 16 → Fin 16) (l : Fin 16) : ¬ Chosen σ 0 l := fun ⟨_, h, _⟩ => absurd h (Nat.not_lt_zero _)

theorem chosen_succ (σ : Fin 16 → Fin 16) (n : ℕ) (hn : n < 16) (l : Fin 16) :
    Chosen σ (n + 1) l ↔ Chosen σ n l ∨ l = σ ⟨n, hn⟩ := by
  constructor
  · rintro ⟨j, hj, e⟩
    rcases Nat.lt_succ_iff_lt_or_eq.mp hj with h | h
    · exact Or.inl ⟨j, h, e⟩
    · exact Or.inr (by rw [← e]; congr 1; exact Fin.ext h)
  · rintro (⟨j, hj, e⟩ | e)
    · exact ⟨j, Nat.lt_succ_of_lt hj, e⟩
    · exact ⟨⟨n, hn⟩, Nat.lt_succ_self _, e.symm⟩

theorem round {p : Fin 16 → EReal} {σ : Fin 16 → Fin 16} (hσ : Sorted p σ) (hp : ∀ l, taken < p l) (n : ℕ) (hn : n < 16)
    (w : Fin 16 → EReal) (hw : ∀ l, w l = if Chosen σ n l then taken else p l) :
    rowArg w = BitVec.ofNat 32 (σ ⟨n, hn⟩ : ℕ) := by
  have hns : ¬ Chosen σ n (σ ⟨n, hn⟩) := by
    rintro ⟨j, hj, e⟩
    have := hσ.1 e
    rw [this] at hj
    exact absurd hj (lt_irrefl _)
  refine rowArg_eq w _ fun r hr => ?_
  rw [hw r, hw (σ ⟨n, hn⟩), if_neg hns]
  obtain ⟨j, rfl⟩ := Finite.injective_iff_surjective.mp hσ.1 r
  by_cases hj : Chosen σ n (σ j)
  · rw [if_pos hj]; exact Or.inl (hp _)
  · rw [if_neg hj]
    have hlt : (⟨n, hn⟩ : Fin 16) < j := by
      rcases lt_trichotomy (⟨n, hn⟩ : Fin 16) j with h | h | h
      · exact h
      · exact absurd (by rw [h]) hr
      · exact absurd ⟨j, h, rfl⟩ hj
    rcases hσ.2 _ _ hlt with h | h
    · exact Or.inl h
    · exact Or.inr h

theorem select_eq (a b : Fin 16) (x y : EReal) :
    Scalar.select (IntOp.cmpi CmpIPredicate.eq (BitVec.ofNat 32 (a : ℕ)) (BitVec.ofNat 32 (b : ℕ))) x y = if a = b then x else y := by
  by_cases h : a = b
  · subst h; simp [Scalar.select, IntOp.cmpi]
  · rw [if_neg h, cmpi_ne h]
    simp [Scalar.select]

theorem mask_step {p : Fin 16 → EReal} {σ : Fin 16 → Fin 16} (n : ℕ) (hn : n < 16)
    (w : Fin 16 → EReal) (hw : ∀ l, w l = if Chosen σ n l then taken else p l) (l : Fin 16) :
    Scalar.select (IntOp.cmpi CmpIPredicate.eq (BitVec.ofNat 32 (l : ℕ)) (BitVec.ofNat 32 (σ ⟨n, hn⟩ : ℕ))) taken (w l)
      = if Chosen σ (n + 1) l then taken else p l := by
  rw [select_eq, hw l]
  by_cases h : l = σ ⟨n, hn⟩
  · rw [if_pos h, if_pos ((chosen_succ σ n hn l).mpr (Or.inr h))]
  · rw [if_neg h]
    congr 1
    exact propext ⟨fun h' => (chosen_succ σ n hn l).mpr (Or.inl h'), fun h' => ((chosen_succ σ n hn l).mp h').resolve_right h⟩

theorem hit_step {σ : Fin 16 → Fin 16} (n : ℕ) (hn : n < 16) (s : BitVec 1) (l : Fin 16)
    (hs : s = if Chosen σ n l then 1#1 else 0#1) :
    IntOp.ori s (IntOp.cmpi CmpIPredicate.eq (BitVec.ofNat 32 (l : ℕ)) (BitVec.ofNat 32 (σ ⟨n, hn⟩ : ℕ)))
      = if Chosen σ (n + 1) l then 1#1 else 0#1 := by
  rw [hs]
  by_cases h : l = σ ⟨n, hn⟩
  · rw [if_pos ((chosen_succ σ n hn l).mpr (Or.inr h)), h]
    split <;> simp [IntOp.ori, IntOp.cmpi]
  · rw [cmpi_ne h]
    by_cases h' : Chosen σ n l
    · rw [if_pos h', if_pos ((chosen_succ σ n hn l).mpr (Or.inl h'))]
      simp [IntOp.ori]
    · rw [if_neg h', if_neg (fun h'' => ((chosen_succ σ n hn l).mp h'').elim h' h)]
      simp [IntOp.ori]

theorem select_hit {σ : Fin 16 → Fin 16} (n : ℕ) (s : BitVec 1) (l : Fin 16)
    (hs : s = if Chosen σ n l then 1#1 else 0#1) (x y : EReal) : Scalar.select s x y = if Chosen σ n l then x else y := by
  rw [hs]
  split <;> simp [Scalar.select]

end Cert.MoE

end
-- ==== Proof.Ideal.RouterRows.lean ====
/- One row of the router's block: the probabilities, the eight rounds and the weights, entry by entry. -/
module

public import proofs.«01_k».proof.Proof.Ideal.Router
public import proofs.«01_k».proof.Proof.Ideal.Select
public import Idealize.ShloMosaic.Lib.Pipeline.ValueKit
public import Idealize.ShloMosaic.Lib.Pointwise

@[expose] public section

set_option maxRecDepth 16384

noncomputable section

namespace Cert.KernelIdeal.Run

open Cert.KernelIdeal.Gen
open Idealize.ShloMosaic Idealize.SL.Sem Cert.MoE

/-- The column numbers of a block. -/
def cols : IVec S1024x16 32 := iota .tc S1024x16 32 [1] iota_S1024x16_d1_w32

theorem cols_at (r : Fin 1024) (l : Fin 16) : cols (ix2 r l) = BitVec.ofNat 32 (l : ℕ) := by
  pointwise [cols]

section rounds

variable {p : Fin 16 → EReal} {σ : Fin 16 → Fin 16} (hσ : Sorted p σ) (hp : ∀ l, taken < p l)
variable (a0 : FVec Ideal S1024x2048 .f32) (a1 : FVec Ideal S16x2048 .f32) (a2 : Vec Ideal S1x16 .f32) (r : Fin 1024)
variable (h18 : ∀ l : Fin 16, k0_pay4 (F := Ideal) a0 a1 a2 (ix2 r l) = p l)
variable (v34 : FVec Ideal S1024x16 .f32) (v41 : IVec S1024 32)
variable (h34 : ∀ l : Fin 16, v34 (ix2 r l) = if Chosen σ 1 l then taken else p l)
variable (h41 : v41 (ix1 r) = BitVec.ofNat 32 (σ 1 : ℕ))
variable (v76 : FVec Ideal S1024x16 .f32) (v87 : IVec S1024x16 1)

include hσ hp h18 in
theorem idx_r0 : k0_pay5 (F := Ideal) a0 a1 a2 (ix1 r) = BitVec.ofNat 32 (σ ⟨0, by omega⟩ : ℕ) := by
  pointwise [k0_pay5]
  exact round hσ hp 0 (by omega) (fun l => k0_pay4 (F := Ideal) a0 a1 a2 (ix2 r l))
    (fun l => by rw [if_neg (not_chosen_zero σ l)]; exact h18 l)

include hσ hp h18 in
theorem work_r1 (l : Fin 16) : k0_pay9 (F := Ideal) a0 a1 a2 (ix2 r l) = if Chosen σ 1 l then taken else p l := by
  pointwise [k0_pay9, k0_pay7]
  rw [idx_r0 hσ hp a0 a1 a2 r h18]
  exact mask_step 0 (by omega) (fun l => k0_pay4 (F := Ideal) a0 a1 a2 (ix2 r l))
    (fun l => by rw [if_neg (not_chosen_zero σ l)]; exact h18 l) l

include hσ hp h18 in
theorem hit_r1 (l : Fin 16) : k0_pay8 (F := Ideal) a0 a1 a2 (ix2 r l) = if Chosen σ 1 l then 1#1 else 0#1 := by
  pointwise [k0_pay8, k0_pay7]
  rw [idx_r0 hσ hp a0 a1 a2 r h18]
  exact hit_step 0 (by omega) 0#1 l (by rw [if_neg (not_chosen_zero σ l)])

include hσ hp h18 in
theorem idx_r1 : k0_pay10 (F := Ideal) a0 a1 a2 (ix1 r) = BitVec.ofNat 32 (σ ⟨1, by omega⟩ : ℕ) := by
  pointwise [k0_pay10]
  exact round hσ hp 1 (by omega) (fun l => k0_pay9 (F := Ideal) a0 a1 a2 (ix2 r l)) (work_r1 hσ hp a0 a1 a2 r h18)

include h34 h41 in
theorem work_r2 (l : Fin 16) : k0_pay13 (F := Ideal) cols v34 v41 (ix2 r l) = if Chosen σ 2 l then taken else p l := by
  pointwise [k0_pay13, k0_pay12]
  simp only [cols_at]
  rw [h41]
  exact mask_step 1 (by omega) (fun l => v34 (ix2 r l)) h34 l

include hσ hp h34 h41 in
theorem idx_r2 : k0_pay14 (F := Ideal) cols v34 v41 (ix1 r) = BitVec.ofNat 32 (σ ⟨2, by omega⟩ : ℕ) := by
  pointwise [k0_pay14]
  simp only [cols_at]
  exact round hσ hp 2 (by omega) (fun l => k0_pay13 (F := Ideal) cols v34 v41 (ix2 r l)) (work_r2 r v34 v41 h34 h41)

include hσ hp h34 h41 in
theorem work_r3 (l : Fin 16) : k0_pay17 (F := Ideal) cols v34 v41 (ix2 r l) = if Chosen σ 3 l then taken else p l := by
  pointwise [k0_pay17, k0_pay16]
  simp only [cols_at]
  rw [idx_r2 hσ hp r v34 v41 h34 h41]
  exact mask_step 2 (by omega) (fun l => k0_pay13 (F := Ideal) cols v34 v41 (ix2 r l)) (work_r2 r v34 v41 h34 h41) l

include hσ hp h34 h41 in
theorem idx_r3 : k0_pay18 (F := Ideal) cols v34 v41 (ix1 r) = BitVec.ofNat 32 (σ ⟨3, by omega⟩ : ℕ) := by
  pointwise [k0_pay18]
  simp only [cols_at]
  exact round hσ hp 3 (by omega) (fun l => k0_pay17 (F := Ideal) cols v34 v41 (ix2 r l)) (work_r3 hσ hp r v34 v41 h34 h41)

include hσ hp h34 h41 in
theorem work_r4 (l : Fin 16) : k0_pay21 (F := Ideal) cols v34 v41 (ix2 r l) = if Chosen σ 4 l then taken else p l := by
  pointwise [k0_pay21, k0_pay20]
  simp only [cols_at]
  rw [idx_r3 hσ hp r v34 v41 h34 h41]
  exact mask_step 3 (by omega) (fun l => k0_pay17 (F := Ideal) cols v34 v41 (ix2 r l)) (work_r3 hσ hp r v34 v41 h34 h41) l

include hσ hp h34 h41 in
theorem idx_r4 : k0_pay22 (F := Ideal) cols v34 v41 (ix1 r) = BitVec.ofNat 32 (σ ⟨4, by omega⟩ : ℕ) := by
  pointwise [k0_pay22]
  simp only [cols_at]
  exact round hσ hp 4 (by omega) (fun l => k0_pay21 (F := Ideal) cols v34 v41 (ix2 r l)) (work_r4 hσ hp r v34 v41 h34 h41)

include hσ hp h34 h41 in
theorem now_r4 (l : Fin 16) : k0_pay24 (F := Ideal) cols v34 v41 (ix2 r l)
    = IntOp.cmpi CmpIPredicate.eq (BitVec.ofNat 32 (l : ℕ)) (BitVec.ofNat 32 (σ ⟨4, by omega⟩ : ℕ)) := by
  pointwise [k0_pay24]
  simp only [cols_at]
  rw [idx_r4 hσ hp r v34 v41 h34 h41]
  rfl

include hσ hp h34 h41 in
theorem hit_r5 (v32 : IVec S1024x16 1) (h32 : ∀ l : Fin 16, v32 (ix2 r l) = if Chosen σ 1 l then 1#1 else 0#1) (l : Fin 16) :
    k0_pay25 (F := Ideal) cols v32 v34 v41 (ix2 r l) = if Chosen σ 5 l then 1#1 else 0#1 := by
  pointwise [k0_pay25, k0_pay12, k0_pay16, k0_pay20, k0_pay24]
  simp only [cols_at]
  rw [h41, idx_r2 hσ hp r v34 v41 h34 h41, idx_r3 hσ hp r v34 v41 h34 h41, idx_r4 hσ hp r v34 v41 h34 h41]
  exact hit_step 4 (by omega) _ l (hit_step 3 (by omega) _ l (hit_step 2 (by omega) _ l (hit_step 1 (by omega) _ l (h32 l))))

variable (h76 : ∀ l : Fin 16, v76 (ix2 r l) = if Chosen σ 4 l then taken else p l)
variable (h87 : ∀ l : Fin 16, v87 (ix2 r l)
    = IntOp.cmpi CmpIPredicate.eq (BitVec.ofNat 32 (l : ℕ)) (BitVec.ofNat 32 (σ 4 : ℕ)))

include h76 h87 in
theorem work_r5 (l : Fin 16) : k0_pay26 (F := Ideal) v76 v87 taken (ix2 r l) = if Chosen σ 5 l then taken else p l := by
  pointwise [k0_pay26]
  rw [h87 l]
  exact mask_step 4 (by omega) (fun l => v76 (ix2 r l)) h76 l

include hσ hp h76 h87 in
theorem idx_r5 : k0_pay27 (F := Ideal) cols v76 v87 taken (ix1 r) = BitVec.ofNat 32 (σ ⟨5, by omega⟩ : ℕ) := by
  pointwise [k0_pay27]
  simp only [cols_at]
  exact round hσ hp 5 (by omega) (fun l => k0_pay26 (F := Ideal) v76 v87 taken (ix2 r l)) (work_r5 r v76 v87 h76 h87)

include hσ hp h76 h87 in
theorem work_r6 (l : Fin 16) : k0_pay30 (F := Ideal) cols v76 v87 taken (ix2 r l) = if Chosen σ 6 l then taken else p l := by
  pointwise [k0_pay30, k0_pay29]
  simp only [cols_at]
  rw [idx_r5 hσ hp r v76 v87 h76 h87]
  exact mask_step 5 (by omega) (fun l => k0_pay26 (F := Ideal) v76 v87 taken (ix2 r l)) (work_r5 r v76 v87 h76 h87) l

include hσ hp h76 h87 in
theorem idx_r6 : k0_pay31 (F := Ideal) cols v76 v87 taken (ix1 r) = BitVec.ofNat 32 (σ ⟨6, by omega⟩ : ℕ) := by
  pointwise [k0_pay31]
  simp only [cols_at]
  exact round hσ hp 6 (by omega) (fun l => k0_pay30 (F := Ideal) cols v76 v87 taken (ix2 r l)) (work_r6 hσ hp r v76 v87 h76 h87)

include hσ hp h76 h87 in
theorem idx_r7 : k0_pay34 (F := Ideal) cols v76 v87 taken (ix1 r) = BitVec.ofNat 32 (σ ⟨7, by omega⟩ : ℕ) := by
  pointwise [k0_pay34, k0_pay33]
  simp only [cols_at]
  rw [idx_r6 hσ hp r v76 v87 h76 h87]
  exact round hσ hp 7 (by omega) _ (fun l =>
    mask_step 6 (by omega) (fun l => k0_pay30 (F := Ideal) cols v76 v87 taken (ix2 r l)) (work_r6 hσ hp r v76 v87 h76 h87) l)

include hσ hp h76 h87 in
theorem chosen_row (v18 : FVec Ideal S1024x16 .f32) (h18' : ∀ l : Fin 16, v18 (ix2 r l) = p l)
    (v88 : IVec S1024x16 1) (h88 : ∀ l : Fin 16, v88 (ix2 r l) = if Chosen σ 5 l then 1#1 else 0#1) (l : Fin 16) :
    k0_pay36 (F := Ideal) v18 cols v76 v87 v88 taken (ix2 r l) = if Chosen σ 8 l then p l else 0 := by
  pointwise [k0_pay36, k0_pay29, k0_pay33]
  simp only [cols_at]
  rw [idx_r5 hσ hp r v76 v87 h76 h87, idx_r6 hσ hp r v76 v87 h76 h87, idx_r7 hσ hp r v76 v87 h76 h87, h18' l]
  exact select_hit 8 _ l (hit_step 7 (by omega) _ l (hit_step 6 (by omega) _ l (hit_step 5 (by omega) _ l (h88 l)))) _ _

end rounds

/-- Eight columns side by side, read at a column. -/
theorem pack (v0 v1 v2 v3 v4 v5 v6 v7 : IVec S1024x1 32) (r : Fin 1024) (f : Fin 8 → BitVec 32)
    (h0 : v0 (ix2 r 0) = f 0) (h1 : v1 (ix2 r 0) = f 1) (h2 : v2 (ix2 r 0) = f 2) (h3 : v3 (ix2 r 0) = f 3)
    (h4 : v4 (ix2 r 0) = f 4) (h5 : v5 (ix2 r 0) = f 5) (h6 : v6 (ix2 r 0) = f 6) (h7 : v7 (ix2 r 0) = f 7) (j : Fin 8) :
    k0_pay2 v0 v1 v2 v3 v4 v5 v6 v7 (ix2 r j) = f j := by
  pointwise [k0_pay2]
  fin_cases j
  · exact h0
  · exact h1
  · exact h2
  · exact h3
  · exact h4
  · exact h5
  · exact h6
  · exact h7

end Cert.KernelIdeal.Run

end
-- ==== Proof.Ideal.Spec.lean ====
/- The router's row as mathematics: logits, probabilities, weights, and the sums they enter. -/
module

public import proofs.«01_k».proof.Proof.Ideal.Select

@[expose] public section

noncomputable section

set_option maxRecDepth 16384

open Idealize.ShloMosaic

namespace Cert.MoE

/-- A logit: a row of `x` against a row of the gate, plus its bias. -/
def logit (X : Fin 2048 → EReal) (G : Fin 16 → Fin 2048 → EReal) (b : Fin 16 → EReal) (l : Fin 16) : EReal :=
  ∑ k, X k * G l k + b l

/-- The probability of an expert from the row's logits. -/
def prob (z : Fin 16 → EReal) (l : Fin 16) : EReal :=
  Ideal.div (Ideal.exp (z l - rowMax z)) (∑ k, Ideal.exp (z k - rowMax z))

/-- The weight of an expert: its probability when it is among the eight greatest, over the sum of those eight. -/
def weight (p : Fin 16 → EReal) (l : Fin 16) : EReal :=
  Ideal.div (if Chosen (order p) 8 l then p l else 0) (∑ k, if Chosen (order p) 8 k then p k else 0)

/-- The value is a real number. -/
def Fin' (x : EReal) : Prop := ∃ r : ℝ, x = (r : EReal)

theorem Fin'.add {x y : EReal} (h : Fin' x) (h' : Fin' y) : Fin' (x + y) := by
  obtain ⟨a, rfl⟩ := h; obtain ⟨b, rfl⟩ := h'; exact ⟨a + b, (EReal.coe_add a b).symm⟩

theorem Fin'.mul {x y : EReal} (h : Fin' x) (h' : Fin' y) : Fin' (x * y) := by
  obtain ⟨a, rfl⟩ := h; obtain ⟨b, rfl⟩ := h'; exact ⟨a * b, (EReal.coe_mul a b).symm⟩

theorem coe_sum {ι : Type} (S : Finset ι) (f : ι → ℝ) : ((∑ k ∈ S, f k : ℝ) : EReal) = ∑ k ∈ S, (f k : EReal) := by
  classical
  induction S using Finset.induction_on with
  | empty => simp
  | insert a S ha ih => rw [Finset.sum_insert ha, Finset.sum_insert ha, EReal.coe_add, ih]

theorem Fin'.sum {ι : Type} (S : Finset ι) (f : ι → EReal) (h : ∀ k, Fin' (f k)) : Fin' (∑ k ∈ S, f k) := by
  choose g hg using h
  exact ⟨∑ k ∈ S, g k, by rw [coe_sum]; exact Finset.sum_congr rfl fun k _ => hg k⟩

theorem logit_fin (X : Fin 2048 → EReal) (G : Fin 16 → Fin 2048 → EReal) (b : Fin 16 → EReal)
    (hX : ∀ k, Fin' (X k)) (hG : ∀ l k, Fin' (G l k)) (hb : ∀ l, Fin' (b l)) (l : Fin 16) : Fin' (logit X G b l) :=
  (Fin'.sum _ _ fun k => (hX k).mul (hG l k)).add (hb l)

theorem rowMax_fin (z : Fin 16 → EReal) (hz : ∀ l, Fin' (z l)) : Fin' (rowMax z) := by
  obtain ⟨s, hs⟩ := Finite.exists_max z
  rw [rowMax_eq z s hs]
  exact hz s

theorem div_coe_pos (a b : ℝ) (hb : 0 < b) : Ideal.div (a : EReal) (b : EReal) = ((a / b : ℝ) : EReal) := by
  unfold Ideal.div
  rw [if_neg (by exact_mod_cast hb.ne')]
  rw [← EReal.coe_inv, ← EReal.coe_mul, div_eq_mul_inv]

/-- With real logits every probability is a positive real. -/
theorem prob_pos (z : Fin 16 → EReal) (hz : ∀ l, Fin' (z l)) (l : Fin 16) : ∃ q : ℝ, 0 < q ∧ prob z l = (q : EReal) := by
  obtain ⟨m, hm⟩ := rowMax_fin z hz
  choose y hy using hz
  have he : ∀ k, Ideal.exp (z k - rowMax z) = ((Real.exp (y k - m) : ℝ) : EReal) := fun k => by
    rw [hy k, hm, ← EReal.coe_sub]; rfl
  have hpos : 0 < ∑ k : Fin 16, Real.exp (y k - m) :=
    Finset.sum_pos (fun k _ => Real.exp_pos _) ⟨0, Finset.mem_univ _⟩
  refine ⟨Real.exp (y l - m) / ∑ k : Fin 16, Real.exp (y k - m), div_pos (Real.exp_pos _) hpos, ?_⟩
  unfold prob
  rw [he l, Finset.sum_congr rfl fun k _ => he k, ← coe_sum, div_coe_pos _ _ hpos]

theorem taken_lt (p : Fin 16 → EReal) (hp : ∀ l, ∃ q : ℝ, 0 < q ∧ p l = (q : EReal)) (l : Fin 16) : taken < p l := by
  obtain ⟨q, hq, e⟩ := hp l
  rw [e, taken_eq]
  exact_mod_cast (by linarith : -(1 : ℝ) < q)

/-- The sum over the chosen entries is a positive real. -/
theorem chosen_sum_pos (p : Fin 16 → EReal) (hp : ∀ l, ∃ q : ℝ, 0 < q ∧ p l = (q : EReal)) :
    ∃ s : ℝ, 0 < s ∧ (∑ k, if Chosen (order p) 8 k then p k else 0) = (s : EReal) := by
  choose q hq e using hp
  refine ⟨∑ k, if Chosen (order p) 8 k then q k else 0, ?_, ?_⟩
  · refine Finset.sum_pos' (fun k _ => ?_) ⟨order p 0, Finset.mem_univ _, ?_⟩
    · split
      · exact (hq k).le
      · exact le_refl _
    · rw [if_pos ⟨0, by norm_num, rfl⟩]; exact hq _
  · rw [coe_sum]
    refine Finset.sum_congr rfl fun k _ => ?_
    split
    · exact e k
    · rfl

theorem weight_nonneg (p : Fin 16 → EReal) (hp : ∀ l, ∃ q : ℝ, 0 < q ∧ p l = (q : EReal)) (l : Fin 16) :
    ∃ c : ℝ, 0 ≤ c ∧ weight p l = (c : EReal) := by
  obtain ⟨s, hs, es⟩ := chosen_sum_pos p hp
  unfold weight
  rw [es]
  split
  · obtain ⟨q, hq, e⟩ := hp l
    exact ⟨q / s, (div_pos hq hs).le, by rw [e, div_coe_pos _ _ hs]⟩
  · exact ⟨0 / s, by simp, by rw [← div_coe_pos _ _ hs]; rfl⟩

/-- One of the first eight places of an order. -/
def place (j : Fin 8) : Fin 16 := ⟨j, by have := j.isLt; omega⟩

theorem chosen_iff (σ : Fin 16 → Fin 16) (l : Fin 16) : Chosen σ 8 l ↔ ∃ j : Fin 8, σ (place j) = l :=
  ⟨fun ⟨j, hj, e⟩ => ⟨⟨j, hj⟩, e⟩, fun ⟨j, e⟩ => ⟨place j, j.isLt, e⟩⟩

/-- A sum over the first eight places, gathered by position. -/
theorem sum_places (σ : Fin 16 → Fin 16) (hσ : Function.Injective σ) (f : Fin 16 → EReal) :
    ∑ j : Fin 8, f (σ (place j)) = ∑ k, if Chosen σ 8 k then f k else 0 := by
  classical
  have hinj : Function.Injective fun j : Fin 8 => σ (place j) := fun a b h => by
    have := hσ h
    exact Fin.ext (Fin.mk.inj_iff.mp this)
  rw [← Finset.sum_filter]
  rw [← Finset.sum_image (s := Finset.univ) (g := fun j : Fin 8 => σ (place j)) (f := f) (fun a _ b _ h => hinj h)]
  refine Finset.sum_congr ?_ fun _ _ => rfl
  ext k
  simp only [Finset.mem_image, Finset.mem_univ, true_and, Finset.mem_filter]
  exact (chosen_iff σ k).symm

/-- The reference's weight: what its scatter puts at `l` from the eight normalised greatest entries. -/
theorem scattered_weight (p : Fin 16 → EReal) (hp : ∀ l, ∃ q : ℝ, 0 < q ∧ p l = (q : EReal)) (l : Fin 16) :
    (∑ j : Fin 8, if order p (place j) = l then
        Ideal.div (p (order p (place j))) (∑ i : Fin 8, p (order p (place i))) else 0) = weight p l := by
  have hinj := (order_sorted p).1
  have h := sum_places (order p) hinj
    (fun k => if k = l then Ideal.div (p k) (∑ i : Fin 8, p (order p (place i))) else 0)
  rw [h, sum_places (order p) hinj p]
  unfold weight
  obtain ⟨s, hs, es⟩ := chosen_sum_pos p hp
  rw [es, Finset.sum_eq_single l]
  · rw [if_pos rfl]
    by_cases hc : Chosen (order p) 8 l
    · rw [if_pos hc, if_pos hc]
    · rw [if_neg hc, if_neg hc]
      have := div_coe_pos 0 s hs
      rw [zero_div] at this
      exact this.symm
  · intro k _ hk
    rw [if_neg hk, ite_self]
  · intro h; exact absurd (Finset.mem_univ _) h

/-- The weighted experts: bias outside the sum or inside it, for weights that are nonnegative reals. -/
theorem mix (c Y B : Fin 16 → EReal) (hc : ∀ e, ∃ r : ℝ, 0 ≤ r ∧ c e = (r : EReal)) :
    ∑ e, c e * B e + ∑ e, c e * Y e = ∑ e, (Y e + B e) * c e := by
  rw [← Finset.sum_add_distrib]
  refine Finset.sum_congr rfl fun e _ => ?_
  obtain ⟨r, hr, h⟩ := hc e
  rw [h, mul_comm (Y e + B e), EReal.left_distrib_of_nonneg_of_ne_top (by exact_mod_cast hr) (EReal.coe_ne_top r), add_comm]

end Cert.MoE

end
-- ==== Proof.Ideal.RouterOut.lean ====
/- What the router's body stores in each output block, entry by entry, in the terms of the specification. -/
module

public import proofs.«01_k».proof.Proof.Ideal.RouterRows
public import proofs.«01_k».proof.Proof.Ideal.Spec

@[expose] public section

set_option maxRecDepth 16384

noncomputable section

namespace Cert.KernelIdeal.Run

open Cert.KernelIdeal.Gen
open Idealize.ShloMosaic Idealize.SL.Sem Cert.MoE

/-- The logits of a row of a block. -/
def zblk (x0 : FVec Ideal S1024x2048 .f32) (x1 : FVec Ideal S16x2048 .f32) (x2 : FVec Ideal S1x16 .f32) (r : Fin 1024) : Fin 16 → EReal :=
  logit (fun k => x0 (ix2 r k)) (fun l k => x1 (ix2 l k)) (fun l => x2 (ix2 0 l))

variable (x0 : Vec Ideal S1024x2048 .f32) (x1 : Vec Ideal S16x2048 .f32) (x2 : Vec Ideal S1x16 .f32) (r : Fin 1024)

theorem prob_row (l : Fin 16) : k0_pay4 (F := Ideal) x0 x1 x2 (ix2 r l) = prob (zblk x0 x1 x2 r) l := by
  pointwise [k0_pay4, k0_pay3]
  rfl

theorem out3_at (l : Fin 16) : out0_3 (F := Ideal) x0 x1 x2 (ix2 r l) = prob (zblk x0 x1 x2 r) l := by
  refine Eq.trans ?_ (prob_row x0 x1 x2 r l)
  unfold out0_3 k0_pay39
  frame_out

theorem out6_at (k : Fin 2048) : out0_6 (F := Ideal) x0 x1 x2 (ix2 r k) = x0 (ix2 r k) := by
  unfold out0_6
  frame_out
  pointwise [k0_pay3]

section
variable (hz : ∀ l, Fin' (zblk x0 x1 x2 r l))
include hz

theorem taken_row (l : Fin 16) : taken < prob (zblk x0 x1 x2 r) l := taken_lt _ (prob_pos _ hz) l

theorem out4_at (j : Fin 8) : out0_4 (F := Ideal) x0 x1 x2 (ix2 r j)
    = BitVec.ofNat 32 (order (prob (zblk x0 x1 x2 r)) (place j) : ℕ) := by
  have hσ := order_sorted (prob (zblk x0 x1 x2 r))
  have hp := taken_row x0 x1 x2 r hz
  have h0 := idx_r0 hσ hp x0 x1 x2 r (prob_row x0 x1 x2 r)
  have h34 := work_r1 hσ hp x0 x1 x2 r (prob_row x0 x1 x2 r)
  have h41 := idx_r1 hσ hp x0 x1 x2 r (prob_row x0 x1 x2 r)
  have h76 := work_r4 hσ hp r _ _ h34 h41
  have h87 := now_r4 hσ hp r _ _ h34 h41
  have h2 := idx_r2 hσ hp r _ _ h34 h41
  have h3 := idx_r3 hσ hp r _ _ h34 h41
  have h4 := idx_r4 hσ hp r _ _ h34 h41
  have h5 := idx_r5 hσ hp r _ _ h76 h87
  have h6 := idx_r6 hσ hp r _ _ h76 h87
  have h7 := idx_r7 hσ hp r _ _ h76 h87
  unfold out0_4 k0_pay43 k0_pay42 k0_pay41 k0_pay40 k0_pay38
  frame_out
  refine pack _ _ _ _ _ _ _ _ r (fun j => BitVec.ofNat 32 (order (prob (zblk x0 x1 x2 r)) (place j) : ℕ)) ?_ ?_ ?_ ?_ ?_ ?_ ?_ ?_ j
  · pointwise [k0_pay6]; exact h0
  · pointwise [k0_pay11]; exact h41
  · pointwise [k0_pay15]; exact h2
  · pointwise [k0_pay19]; exact h3
  · pointwise [k0_pay23]; exact h4
  · pointwise [k0_pay28]; exact h5
  · pointwise [k0_pay32]; exact h6
  · pointwise [k0_pay35]; exact h7

theorem out5_at (l : Fin 16) : out0_5 (F := Ideal) x0 x1 x2 (ix2 r l) = weight (prob (zblk x0 x1 x2 r)) l := by
  have hσ := order_sorted (prob (zblk x0 x1 x2 r))
  have hp := taken_row x0 x1 x2 r hz
  have h34 := work_r1 hσ hp x0 x1 x2 r (prob_row x0 x1 x2 r)
  have h41 := idx_r1 hσ hp x0 x1 x2 r (prob_row x0 x1 x2 r)
  have h32 := hit_r1 hσ hp x0 x1 x2 r (prob_row x0 x1 x2 r)
  have h76 := work_r4 hσ hp r _ _ h34 h41
  have h87 := now_r4 hσ hp r _ _ h34 h41
  have h88 := hit_r5 hσ hp r _ _ h34 h41 _ h32
  have hc := chosen_row hσ hp r _ _ h76 h87 _ (prob_row x0 x1 x2 r) _ h88
  unfold out0_5 k0_pay44 k0_pay43 k0_pay42 k0_pay41 k0_pay40 k0_pay39 k0_pay38
  frame_out
  pointwise [k0_pay1, k0_pay37]
  exact congrArg₂ Ideal.div (hc l) (Finset.sum_congr rfl fun k _ => hc k)

end

end Cert.KernelIdeal.Run

end
-- ==== Proof.Ideal.RouterFinal.lean ====
/- The four arrays after the router region. -/
module

public import proofs.«01_k».proof.Proof.Ideal.RouterOut

@[expose] public section

set_option maxRecDepth 16384

noncomputable section

namespace Cert.KernelIdeal.Run

open Cert.KernelIdeal.Gen
open Idealize.ShloMosaic Idealize.ShloMosaic.TcCoe Idealize.SL.Sem Cert.MoE

variable (V : (c : Dev nD) → (b : Ref sig .tc) → Buf (Elt Ideal) ((c : Thread nD τ).loc b)) (c : Dev nD)

/-- The tokens the region finds. -/
def xarr : FVec Ideal S4096x2048 .f32 := V c main_v0
def garr : FVec Ideal S16x2048 .f32 := V c main_arg1
def barr : FVec Ideal S1x16 .f32 := V c main_v1

/-- The logits of a token. -/
def zrow (t : Fin 4096) : Fin 16 → EReal :=
  logit (fun k => xarr V c (ix2 t k)) (fun l k => garr V c (ix2 l k)) (fun l => barr V c (ix2 0 l))

theorem idx0 : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] ∧ win0_6.index t = ![t.val, 0] :=
  (by decide +kernel : ∀ t : Fin grid0.N, _)

/-- A row's logits read off the blocks are the token's. -/
theorem zblk_eq (t : Fin cfg0.N) (r : Fin 1024) (g : Fin 4096) (hg : (g : ℕ) = t.val * 1024 + r) :
    zblk (iblk0 V c 0 t) (iblk0 V c 1 t) (iblk0 V c 2 t) r = zrow V c g := by
  funext l
  unfold zblk zrow logit
  refine Ideal.add_congr (Finset.sum_congr rfl fun k _ => Ideal.mul_congr ?_ ?_) ?_
  all_goals (dsimp only; blk_ext [iblk0, xarr, garr, barr, idx0 t])

theorem point3 (t : Fin cfg0.N) (y : S1024x16.Idx) (j : S4096x16.Idx) (h0 : (j 0 : ℕ) = t.val * 1024 + y 0) (h1 : (j 1 : ℕ) = y 1) :
    out0_3 (F := Ideal) (iblk0 V c 0 t) (iblk0 V c 1 t) (iblk0 V c 2 t) y = prob (zrow V c (j 0)) (j 1) := by
  have e := zblk_eq V c t (y 0) (j 0) h0
  refine (congrArg _ (eq_ix2 y)).trans ?_
  refine (out3_at _ _ _ (y 0) (y 1)).trans ?_
  rw [e, show (y 1) = j 1 from Fin.ext h1.symm]

theorem final3 : (dat0 V c).arrAt 3 cfg0.N = fun j : S4096x16.Idx => prob (zrow V c (j 0)) (j 1) := by
  refine (dat0 V c).arrAt_eq_of_covers 3 _ (by decide +kernel) fun t hf y => ?_
  blk_simp
  rw [after0_3]
  refine point3 V c t y _ ?_ ?_
  all_goals (blk_simp [idx0 t] <;> try omega)

theorem point4 (hz : ∀ t l, Fin' (zrow V c t l)) (t : Fin cfg0.N) (y : S1024x8.Idx) (j : S4096x8.Idx) (h0 : (j 0 : ℕ) = t.val * 1024 + y 0) (h1 : (j 1 : ℕ) = y 1) :
    out0_4 (F := Ideal) (iblk0 V c 0 t) (iblk0 V c 1 t) (iblk0 V c 2 t) y = BitVec.ofNat 32 (order (prob (zrow V c (j 0))) (place (j 1)) : ℕ) := by
  have e := zblk_eq V c t (y 0) (j 0) h0
  refine (congrArg _ (eq_ix2 y)).trans ?_
  refine (out4_at _ _ _ (y 0) (fun l => by rw [e]; exact hz (j 0) l) (y 1)).trans ?_
  rw [e, show (y 1) = j 1 from Fin.ext h1.symm]

theorem final4 (hz : ∀ t l, Fin' (zrow V c t l)) : (dat0 V c).arrAt 4 cfg0.N = fun j : S4096x8.Idx => BitVec.ofNat 32 (order (prob (zrow V c (j 0))) (place (j 1)) : ℕ) := by
  refine (dat0 V c).arrAt_eq_of_covers 4 _ (by decide +kernel) fun t hf y => ?_
  blk_simp
  rw [after0_4]
  refine point4 V c hz t y _ ?_ ?_
  all_goals (blk_simp [idx0 t] <;> try omega)

theorem point5 (hz : ∀ t l, Fin' (zrow V c t l)) (t : Fin cfg0.N) (y : S1024x16.Idx) (j : S4096x16.Idx) (h0 : (j 0 : ℕ) = t.val * 1024 + y 0) (h1 : (j 1 : ℕ) = y 1) :
    out0_5 (F := Ideal) (iblk0 V c 0 t) (iblk0 V c 1 t) (iblk0 V c 2 t) y = weight (prob (zrow V c (j 0))) (j 1) := by
  have e := zblk_eq V c t (y 0) (j 0) h0
  refine (congrArg _ (eq_ix2 y)).trans ?_
  refine (out5_at _ _ _ (y 0) (fun l => by rw [e]; exact hz (j 0) l) (y 1)).trans ?_
  rw [e, show (y 1) = j 1 from Fin.ext h1.symm]

theorem final5 (hz : ∀ t l, Fin' (zrow V c t l)) : (dat0 V c).arrAt 5 cfg0.N = fun j : S4096x16.Idx => weight (prob (zrow V c (j 0))) (j 1) := by
  refine (dat0 V c).arrAt_eq_of_covers 5 _ (by decide +kernel) fun t hf y => ?_
  blk_simp
  rw [after0_5]
  refine point5 V c hz t y _ ?_ ?_
  all_goals (blk_simp [idx0 t] <;> try omega)

theorem point6 (t : Fin cfg0.N) (y : S1024x2048.Idx) (j : S4096x2048.Idx) (h0 : (j 0 : ℕ) = t.val * 1024 + y 0) (h1 : (j 1 : ℕ) = y 1) :
    out0_6 (F := Ideal) (iblk0 V c 0 t) (iblk0 V c 1 t) (iblk0 V c 2 t) y = xarr V c j := by
  have e := zblk_eq V c t (y 0) (j 0) h0
  refine (congrArg _ (eq_ix2 y)).trans ?_
  refine (out6_at _ _ _ (y 0) (y 1)).trans ?_
  clear e
  blk_ext [iblk0, xarr, idx0 t]

theorem final6 : (dat0 V c).arrAt 6 cfg0.N = fun j : S4096x2048.Idx => xarr V c j := by
  refine (dat0 V c).arrAt_eq_of_covers 6 _ (by decide +kernel) fun t hf y => ?_
  blk_simp
  rw [after0_6]
  refine point6 V c t y _ ?_ ?_
  all_goals (blk_simp [idx0 t] <;> try omega)

end Cert.KernelIdeal.Run

end
-- ==== Proof.Ideal.ExpertsRows.lean ====
/- One step of the expert region: each chunk of the output block, entry by entry. -/
module

public import proofs.«01_k».proof.Proof.Ideal.Experts
public import proofs.«01_k».proof.Proof.Ideal.Spec
public import Idealize.ShloMosaic.Lib.Pipeline.ValueKit
public import Idealize.ShloMosaic.Lib.Pointwise

@[expose] public section

set_option maxRecDepth 16384

noncomputable section

namespace Cert.KernelIdeal.Run

open Cert.KernelIdeal.Gen
open Idealize.ShloMosaic Idealize.SL.Sem Cert.MoE

/-- The expert a step's slot `s` stands for. -/
def slot (i : grid1.Coords) (s : Fin 4) : Fin 16 :=
  ⟨4 * (i 1).val + s, by have h : (i 1).val < 4 := (i 1).isLt; have := s.isLt; omega⟩

/-- The word the body computes for a slot's expert. -/
theorem slot_word (i : grid1.Coords) (s : Fin 4) (w : BitVec 32) (hw : w = BitVec.ofNat 32 (s : ℕ)) :
    Scalar.addi (Scalar.muli 4#32 (BitVec.ofNat 32 (i 1).val)) w = BitVec.ofNat 32 (slot i s : ℕ) := by
  subst hw
  show 4#32 * BitVec.ofNat 32 (i 1).val + BitVec.ofNat 32 (s : ℕ) = _
  rw [show (4#32 : BitVec 32) = BitVec.ofNat 32 4 from rfl, ← BitVec.ofNat_mul, ← BitVec.ofNat_add]
  rfl

/-- The sum over the columns that keeps one expert's weight is that weight. -/
theorem pick (i : grid1.Coords) (s : Fin 4) (w : BitVec 32) (hw : w = BitVec.ofNat 32 (s : ℕ)) (f : Fin 16 → EReal) :
    (∑ x : Fin 16, Scalar.select (IntOp.cmpi CmpIPredicate.eq (BitVec.ofNat 32 (x : ℕ))
      (Scalar.addi (Scalar.muli 4#32 (BitVec.ofNat 32 (i 1).val)) w)) (f x) 0) = f (slot i s) := by
  rw [slot_word i s w hw, Finset.sum_congr rfl fun x _ => select_eq x (slot i s) (f x) 0, Finset.sum_ite_eq']
  simp

/-- What a step adds at a token and a column: its four experts, each with its weight. -/
def upd (i : grid1.Coords) (x0 : FVec Ideal S4096x2048 .bf16) (x1 : FVec Ideal S4x256x2048 .f32) (x2 : FVec Ideal S4096x16 .f32)
    (r : Fin 4096) (l : Fin 256) : EReal :=
  x2 (ix2 r (slot i 0)) * (∑ k, x0 (ix2 r k) * x1 (ix3 0 l k)) + x2 (ix2 r (slot i 1)) * (∑ k, x0 (ix2 r k) * x1 (ix3 1 l k))
    + x2 (ix2 r (slot i 2)) * (∑ k, x0 (ix2 r k) * x1 (ix3 2 l k)) + x2 (ix2 r (slot i 3)) * (∑ k, x0 (ix2 r k) * x1 (ix3 3 l k))

variable (i : grid1.Coords) (x0 : Vec Ideal S4096x2048 .bf16) (x1 : Vec Ideal S4x256x2048 .f32) (x2 : Vec Ideal S4096x16 .f32)
  (x3 : Vec Ideal S16x256 .f32)

set_option maxHeartbeats 1000000 in
theorem stA_0 (r : Fin 1024) (l : Fin 256) (g : Fin 4096) (hg : (g : ℕ) = r) :
    stA1_0 (F := Ideal) i x0 x1 x2 x3 (ix2 r l) = ∑ e : Fin 16, x2 (ix2 g e) * x3 (ix2 e l) + upd i x0 x1 x2 g l := by
  have eg : g = ⟨r, by have := r.isLt; omega⟩ := Fin.ext hg
  rw [eg]
  pointwise [stA1_0, k1_pay13, k1_pay12, k1_pay11, k1_pay10, k1_pay9, k1_pay8, k1_pay4, k1_pay5, k1_pay6, k1_pay7]
  simp only [pick i 0 0#32 rfl, pick i 1 1#32 rfl, pick i 2 2#32 rfl, pick i 3 3#32 rfl]
  rfl

set_option maxHeartbeats 1000000 in
theorem stB_0 (y : FVec Ideal S1024x256 .f32) (r : Fin 1024) (l : Fin 256) (g : Fin 4096) (hg : (g : ℕ) = r) :
    stB1_0 (F := Ideal) i x0 x1 x2 y (ix2 r l) = y (ix2 r l) + upd i x0 x1 x2 g l := by
  have eg : g = ⟨r, by have := r.isLt; omega⟩ := Fin.ext hg
  rw [eg]
  pointwise [stB1_0, k1_pay14, k1_pay12, k1_pay11, k1_pay10, k1_pay9, k1_pay8, k1_pay4, k1_pay5, k1_pay6, k1_pay7]
  simp only [pick i 0 0#32 rfl, pick i 1 1#32 rfl, pick i 2 2#32 rfl, pick i 3 3#32 rfl]
  rfl

set_option maxHeartbeats 1000000 in
theorem stA_1 (r : Fin 1024) (l : Fin 256) (g : Fin 4096) (hg : (g : ℕ) = 1024 + r) :
    stA1_1 (F := Ideal) i x0 x1 x2 x3 (ix2 r l) = ∑ e : Fin 16, x2 (ix2 g e) * x3 (ix2 e l) + upd i x0 x1 x2 g l := by
  have eg : g = ⟨1024 + r, by have := r.isLt; omega⟩ := Fin.ext hg
  rw [eg]
  pointwise [stA1_1, k1_pay20, k1_pay19, k1_pay18, k1_pay17, k1_pay16, k1_pay15, k1_pay4, k1_pay5, k1_pay6, k1_pay7]
  simp only [pick i 0 0#32 rfl, pick i 1 1#32 rfl, pick i 2 2#32 rfl, pick i 3 3#32 rfl]
  rfl

set_option maxHeartbeats 1000000 in
theorem stB_1 (y : FVec Ideal S1024x256 .f32) (r : Fin 1024) (l : Fin 256) (g : Fin 4096) (hg : (g : ℕ) = 1024 + r) :
    stB1_1 (F := Ideal) i x0 x1 x2 y (ix2 r l) = y (ix2 r l) + upd i x0 x1 x2 g l := by
  have eg : g = ⟨1024 + r, by have := r.isLt; omega⟩ := Fin.ext hg
  rw [eg]
  pointwise [stB1_1, k1_pay21, k1_pay19, k1_pay18, k1_pay17, k1_pay16, k1_pay15, k1_pay4, k1_pay5, k1_pay6, k1_pay7]
  simp only [pick i 0 0#32 rfl, pick i 1 1#32 rfl, pick i 2 2#32 rfl, pick i 3 3#32 rfl]
  rfl

set_option maxHeartbeats 1000000 in
theorem stA_2 (r : Fin 1024) (l : Fin 256) (g : Fin 4096) (hg : (g : ℕ) = 2048 + r) :
    stA1_2 (F := Ideal) i x0 x1 x2 x3 (ix2 r l) = ∑ e : Fin 16, x2 (ix2 g e) * x3 (ix2 e l) + upd i x0 x1 x2 g l := by
  have eg : g = ⟨2048 + r, by have := r.isLt; omega⟩ := Fin.ext hg
  rw [eg]
  pointwise [stA1_2, k1_pay27, k1_pay26, k1_pay25, k1_pay24, k1_pay23, k1_pay22, k1_pay4, k1_pay5, k1_pay6, k1_pay7]
  simp only [pick i 0 0#32 rfl, pick i 1 1#32 rfl, pick i 2 2#32 rfl, pick i 3 3#32 rfl]
  rfl

set_option maxHeartbeats 1000000 in
theorem stB_2 (y : FVec Ideal S1024x256 .f32) (r : Fin 1024) (l : Fin 256) (g : Fin 4096) (hg : (g : ℕ) = 2048 + r) :
    stB1_2 (F := Ideal) i x0 x1 x2 y (ix2 r l) = y (ix2 r l) + upd i x0 x1 x2 g l := by
  have eg : g = ⟨2048 + r, by have := r.isLt; omega⟩ := Fin.ext hg
  rw [eg]
  pointwise [stB1_2, k1_pay28, k1_pay26, k1_pay25, k1_pay24, k1_pay23, k1_pay22, k1_pay4, k1_pay5, k1_pay6, k1_pay7]
  simp only [pick i 0 0#32 rfl, pick i 1 1#32 rfl, pick i 2 2#32 rfl, pick i 3 3#32 rfl]
  rfl

set_option maxHeartbeats 1000000 in
theorem stA_3 (r : Fin 1024) (l : Fin 256) (g : Fin 4096) (hg : (g : ℕ) = 3072 + r) :
    stA1_3 (F := Ideal) i x0 x1 x2 x3 (ix2 r l) = ∑ e : Fin 16, x2 (ix2 g e) * x3 (ix2 e l) + upd i x0 x1 x2 g l := by
  have eg : g = ⟨3072 + r, by have := r.isLt; omega⟩ := Fin.ext hg
  rw [eg]
  pointwise [stA1_3, k1_pay2, k1_pay1, k1_pay29, k1_pay30, k1_pay31, k1_pay32, k1_pay4, k1_pay5, k1_pay6, k1_pay7]
  simp only [pick i 0 0#32 rfl, pick i 1 1#32 rfl, pick i 2 2#32 rfl, pick i 3 3#32 rfl]
  rfl

set_option maxHeartbeats 1000000 in
theorem stB_3 (y : FVec Ideal S1024x256 .f32) (r : Fin 1024) (l : Fin 256) (g : Fin 4096) (hg : (g : ℕ) = 3072 + r) :
    stB1_3 (F := Ideal) i x0 x1 x2 y (ix2 r l) = y (ix2 r l) + upd i x0 x1 x2 g l := by
  have eg : g = ⟨3072 + r, by have := r.isLt; omega⟩ := Fin.ext hg
  rw [eg]
  pointwise [stB1_3, k1_pay3, k1_pay1, k1_pay29, k1_pay30, k1_pay31, k1_pay32, k1_pay4, k1_pay5, k1_pay6, k1_pay7]
  simp only [pick i 0 0#32 rfl, pick i 1 1#32 rfl, pick i 2 2#32 rfl, pick i 3 3#32 rfl]
  rfl

end Cert.KernelIdeal.Run

end
-- ==== Proof.Ideal.ExpertsFinal.lean ====
/- The output array after the expert region: the bias product plus the sixteen weighted experts. -/
module

public import proofs.«01_k».proof.Proof.Ideal.ExpertsRows

@[expose] public section

set_option maxRecDepth 16384

noncomputable section

namespace Cert.KernelIdeal.Run

open Cert.KernelIdeal.Gen
open Idealize.ShloMosaic Idealize.ShloMosaic.TcCoe Idealize.SL.Sem Cert.MoE

section block

variable (i : grid1.Coords) (x0 : Vec Ideal S4096x2048 .bf16) (x1 : Vec Ideal S4x256x2048 .f32) (x2 : Vec Ideal S4096x16 .f32)
  (x3 : Vec Ideal S16x256 .f32)

theorem outA_at (y : S4096x256.Idx) : out1_A (F := Ideal) i x0 x1 x2 x3 y
    = ∑ e : Fin 16, x2 (ix2 (y 0) e) * x3 (ix2 e (y 1)) + upd i x0 x1 x2 (y 0) (y 1) := by
  unfold out1_A
  canon_tiles x h
  · exact (congrArg _ (eq_ix2 x)).trans ((stA_3 i x0 x1 x2 x3 (x 0) (x 1) (y 0) h0).trans (by rw [show x 1 = y 1 from Fin.ext h1.symm]))
  · exact (congrArg _ (eq_ix2 x)).trans ((stA_2 i x0 x1 x2 x3 (x 0) (x 1) (y 0) h0).trans (by rw [show x 1 = y 1 from Fin.ext h1.symm]))
  · exact (congrArg _ (eq_ix2 x)).trans ((stA_1 i x0 x1 x2 x3 (x 0) (x 1) (y 0) h0).trans (by rw [show x 1 = y 1 from Fin.ext h1.symm]))
  · exact (congrArg _ (eq_ix2 x)).trans ((stA_0 i x0 x1 x2 x3 (x 0) (x 1) (y 0) h0).trans (by rw [show x 1 = y 1 from Fin.ext h1.symm]))

theorem outB_at (y0 : Vec Ideal S4096x256 .f32) (y : S4096x256.Idx) : out1_B (F := Ideal) i x0 x1 x2 y0 y
    = y0 y + upd i x0 x1 x2 (y 0) (y 1) := by
  unfold out1_B
  canon_tiles x h
  · refine (congrArg _ (eq_ix2 x)).trans ((stB_3 i x0 x1 x2 _ (x 0) (x 1) (y 0) h0).trans ?_)
    rw [show x 1 = y 1 from Fin.ext h1.symm]
    refine Ideal.add_congr ?_ rfl
    exact View.ld_unit_apply_of _ _ _ _ _ _ (Fin.forall_fin_two.mpr ⟨by first | exact h0 | (rw [h0]; exact (Nat.zero_add _).symm), (Nat.zero_add _).symm⟩)
  · refine (congrArg _ (eq_ix2 x)).trans ((stB_2 i x0 x1 x2 _ (x 0) (x 1) (y 0) h0).trans ?_)
    rw [show x 1 = y 1 from Fin.ext h1.symm]
    refine Ideal.add_congr ?_ rfl
    exact View.ld_unit_apply_of _ _ _ _ _ _ (Fin.forall_fin_two.mpr ⟨by first | exact h0 | (rw [h0]; exact (Nat.zero_add _).symm), (Nat.zero_add _).symm⟩)
  · refine (congrArg _ (eq_ix2 x)).trans ((stB_1 i x0 x1 x2 _ (x 0) (x 1) (y 0) h0).trans ?_)
    rw [show x 1 = y 1 from Fin.ext h1.symm]
    refine Ideal.add_congr ?_ rfl
    exact View.ld_unit_apply_of _ _ _ _ _ _ (Fin.forall_fin_two.mpr ⟨by first | exact h0 | (rw [h0]; exact (Nat.zero_add _).symm), (Nat.zero_add _).symm⟩)
  · refine (congrArg _ (eq_ix2 x)).trans ((stB_0 i x0 x1 x2 _ (x 0) (x 1) (y 0) h0).trans ?_)
    rw [show x 1 = y 1 from Fin.ext h1.symm]
    refine Ideal.add_congr ?_ rfl
    exact View.ld_unit_apply_of _ _ _ _ _ _ (Fin.forall_fin_two.mpr ⟨by first | exact h0 | (rw [h0]; exact (Nat.zero_add _).symm), (Nat.zero_add _).symm⟩)

end block

variable (V : (c : Dev nD) → (b : Ref sig .tc) → Buf (Elt Ideal) ((c : Thread nD τ).loc b)) (c : Dev nD)

theorem idx1 : ∀ t : Fin cfg1.N, win1_0.index t = ![0, 0] ∧ win1_1.index t = ![t.val % 4, t.val / 4, 0] ∧ win1_2.index t = ![0, 0]
    ∧ win1_3.index t = ![0, t.val / 4] ∧ win1_4.index t = ![0, t.val / 4] ∧ (grid1.coords t 1).val = t.val % 4 :=
  (by decide +kernel : ∀ t : Fin grid1.N, _)

/-- The converted tokens, the experts' weights and biases and the combine weights the region finds. -/
def tarr : FVec Ideal S4096x2048 .bf16 := V c main_v2_3
def warr : FVec Ideal S16x2048x2048 .f32 := V c main_arg3
def carr : FVec Ideal S4096x16 .f32 := V c main_v2_2
def earr : FVec Ideal S16x2048 .f32 := V c main_arg4

/-- Expert `e`'s weighted output for token `g`, column `d`. -/
def term (g : Fin 4096) (d : Fin 2048) (e : Fin 16) : EReal :=
  carr V c (ix2 g e) * ∑ k, tarr V c (ix2 g k) * warr V c (ix3 e d k)

def bias (g : Fin 4096) (d : Fin 2048) : EReal := ∑ e : Fin 16, carr V c (ix2 g e) * earr V c (ix2 e d)

/-- The weighted outputs over plain numbers, zero past the last expert. -/
def termN (g : Fin 4096) (d : Fin 2048) (n : ℕ) : EReal := if h : n < 16 then term V c g d ⟨n, h⟩ else 0

theorem term_at (t : Fin cfg1.N) (g : Fin 4096) (l : Fin 256) (d : Fin 2048) (hd : (d : ℕ) = 256 * (t.val / 4) + l) (s : Fin 4)
    (tokens : FVec Ideal S4096x2048 .bf16) (weights : FVec Ideal S4x256x2048 .f32) (comb : FVec Ideal S4096x16 .f32)
    (ht : tokens = iblk1 V c 0 t) (hw : weights = iblk1 V c 1 t) (hb : comb = iblk1 V c 2 t) :
    comb (ix2 g (slot (grid1.coords t) s))
      * (∑ k, tokens (ix2 g k) * weights (ix3 s l k))
      = termN V c g d (4 * (t.val % 4) + s) := by
  subst ht hw hb
  have hs := s.isLt
  have hc := (idx1 t).2.2.2.2.2
  unfold termN
  rw [dif_pos (by omega)]
  unfold term
  refine Ideal.mul_congr ?_ (Finset.sum_congr rfl fun k _ => Ideal.mul_congr ?_ ?_)
  · have e : slot (grid1.coords t) s = ⟨4 * (t.val % 4) + s, by omega⟩ := Fin.ext (by show 4 * _ + _ = _; rw [hc])
    rw [e]
    blk_ext [iblk1, carr, idx1 t]
  · blk_ext [iblk1, tarr, idx1 t]
  · blk_ext [iblk1, warr, idx1 t]

theorem upd_at (t : Fin cfg1.N) (g : Fin 4096) (l : Fin 256) (d : Fin 2048) (hd : (d : ℕ) = 256 * (t.val / 4) + l) :
    upd (grid1.coords t) (iblk1 V c 0 t) (iblk1 V c 1 t) (iblk1 V c 2 t) g l
      = termN V c g d (4 * (t.val % 4)) + termN V c g d (4 * (t.val % 4) + 1) + termN V c g d (4 * (t.val % 4) + 2) + termN V c g d (4 * (t.val % 4) + 3) := by
  unfold upd
  exact Ideal.add_congr (Ideal.add_congr (Ideal.add_congr (term_at V c t g l d hd 0 _ _ _ rfl rfl rfl) (term_at V c t g l d hd 1 _ _ _ rfl rfl rfl)) (term_at V c t g l d hd 2 _ _ _ rfl rfl rfl)) (term_at V c t g l d hd 3 _ _ _ rfl rfl rfl)

theorem bias_at (t : Fin cfg1.N) (g : Fin 4096) (l : Fin 256) (d : Fin 2048) (hd : (d : ℕ) = 256 * (t.val / 4) + l)
    (comb : FVec Ideal S4096x16 .f32) (biases : FVec Ideal S16x256 .f32) (hb : comb = iblk1 V c 2 t) (he : biases = iblk1 V c 3 t) :
    (∑ e : Fin 16, comb (ix2 g e) * biases (ix2 e l)) = bias V c g d := by
  subst hb he
  unfold bias
  refine Finset.sum_congr rfl fun e _ => Ideal.mul_congr ?_ ?_
  · blk_ext [iblk1, carr, idx1 t]
  · blk_ext [iblk1, earr, idx1 t]

/-- What the output block holds after a step: the bias product and the experts met so far. -/
theorem acc (q : ℕ) (hq : q < 4) : ∀ (t : Fin cfg1.N) (y : S4096x256.Idx) (d : Fin 2048), t.val % 4 = q → (d : ℕ) = 256 * (t.val / 4) + y 1 →
    outsAt1 V c t.val t.isLt y = bias V c (y 0) d + ∑ n ∈ Finset.range (4 * (q + 1)), termN V c (y 0) d n := by
  induction q with
  | zero =>
    intro t y d ht hd
    rw [outsAt1_A V c t ht]
    refine (outA_at _ _ _ _ _ y).trans ?_
    refine Ideal.add_congr (bias_at V c t (y 0) (y 1) d hd _ _ rfl rfl) ?_
    refine (upd_at V c t (y 0) (y 1) d hd).trans ?_
    rw [ht]
    simp [Finset.sum_range_succ]
  | succ q ih =>
    intro t y d ht hd
    rw [outsAt1_B V c t (by omega)]
    refine (outB_at _ _ _ _ _ y).trans ?_
    refine (Ideal.add_congr (ih (by omega) ⟨t.val - 1, Nat.lt_of_le_of_lt (Nat.sub_le _ _) t.isLt⟩ y d (by show (t.val - 1) % 4 = q; omega)
      (by show (d : ℕ) = 256 * ((t.val - 1) / 4) + y 1; rw [hd]; omega)) (upd_at V c t (y 0) (y 1) d hd)).trans ?_
    have e : ∀ f : ℕ → EReal, ∑ n ∈ Finset.range (4 * (q + 1 + 1)), f n = (∑ n ∈ Finset.range (4 * (q + 1)), f n)
        + (f (4 * (q + 1)) + f (4 * (q + 1) + 1) + f (4 * (q + 1) + 2) + f (4 * (q + 1) + 3)) := fun f => by
      rw [show 4 * (q + 1 + 1) = (((4 * (q + 1)).succ).succ.succ).succ from rfl, Finset.sum_range_succ, Finset.sum_range_succ, Finset.sum_range_succ,
        Finset.sum_range_succ, add_assoc, add_assoc, add_assoc, add_assoc, add_assoc]
    rw [ht, e, add_assoc]

theorem all_terms (g : Fin 4096) (d : Fin 2048) : ∑ n ∈ Finset.range 16, termN V c g d n = ∑ e : Fin 16, term V c g d e := by
  rw [Finset.sum_range]
  exact Finset.sum_congr rfl fun e _ => dif_pos e.isLt

theorem flush1 : ∀ t : Fin cfg1.N, (cfg1.win 4).flush t = true → t.val % 4 = 3 :=
  (by decide +kernel : ∀ t : Fin grid1.N, _)

theorem point_experts (t : Fin cfg1.N) (h3 : t.val % 4 = 3) (y : S4096x256.Idx) (j : S4096x2048.Idx) (h0 : (j 0 : ℕ) = y 0)
    (h1 : (j 1 : ℕ) = t.val / 4 * 256 + y 1) :
    outsAt1 V c t.val t.isLt y = bias V c (j 0) (j 1) + ∑ e : Fin 16, term V c (j 0) (j 1) e := by
  have key := acc V c 3 (by omega) t y (j 1) h3 (by rw [h1, Nat.mul_comm])
  have e : y 0 = j 0 := Fin.ext h0.symm
  rw [e] at key
  exact key.trans (Ideal.add_congr rfl (all_terms V c (j 0) (j 1)))

theorem final_experts : (dat1 V c).arrAt 4 cfg1.N = fun j : S4096x2048.Idx => bias V c (j 0) (j 1) + ∑ e : Fin 16, term V c (j 0) (j 1) e := by
  refine (dat1 V c).arrAt_eq_of_covers 4 _ (by decide +kernel) fun t hf y => ?_
  have h3 := flush1 t hf
  blk_simp
  rw [after1_4]
  refine point_experts V c t h3 y _ ?_ ?_
  all_goals (blk_simp [idx1 t] <;> try omega)

end Cert.KernelIdeal.Run

end
-- ==== Proof.Ideal.Outcome.lean ====
/- What the layer computes, over plain functions of positions. -/
module

public import proofs.«01_k».proof.Proof.Ideal.Spec

@[expose] public section

noncomputable section

namespace Cert.MoE

open Idealize.ShloMosaic

variable (X : Fin 4096 → Fin 2048 → EReal) (G : Fin 16 → Fin 2048 → EReal) (b : Fin 16 → EReal)
  (W : Fin 16 → Fin 2048 → Fin 2048 → EReal) (B : Fin 16 → Fin 2048 → EReal)

/-- A token's routing probabilities. -/
def probs (r : Fin 4096) : Fin 16 → EReal := prob (logit (X r) G b)

/-- A token's chosen experts, as words, the most likely first. -/
def picks (r : Fin 4096) (j : Fin 8) : BitVec 32 := BitVec.ofNat 32 (order (probs X G b r) (place j) : ℕ)

/-- A token's mixed output: each expert's linear map and bias, weighted. -/
def mixed (r : Fin 4096) (d : Fin 2048) : EReal :=
  ∑ e, (∑ k, X r k * W e d k + B e d) * weight (probs X G b r) e

/-- The same with the weight first and the biases apart. -/
theorem mixed_split (hX : ∀ r k, Fin' (X r k)) (hG : ∀ l k, Fin' (G l k)) (hb : ∀ l, Fin' (b l)) (r : Fin 4096) (d : Fin 2048) :
    (∑ e, weight (probs X G b r) e * B e d) + ∑ e, weight (probs X G b r) e * ∑ k, X r k * W e d k = mixed X G b W B r d :=
  mix _ _ _ (fun e => weight_nonneg _ (fun l => prob_pos _ (fun l => logit_fin _ _ _ (hX r) hG hb l) l) e)

end Cert.MoE

end
-- ==== Proof.Ideal.Results.lean ====
/- The kernel's three results after the whole run, as the layer's functions of the arguments. -/
module

public import proofs.«01_k».proof.Proof.Ideal.Whole
public import proofs.«01_k».proof.Proof.Ideal.RouterFinal
public import proofs.«01_k».proof.Proof.Ideal.ExpertsFinal
public import proofs.«01_k».proof.Proof.Ideal.Outcome

@[expose] public section

set_option maxRecDepth 16384

noncomputable section

namespace Cert.KernelIdeal.Run

open Cert.KernelIdeal.Gen
open Idealize.ShloMosaic Idealize.ShloMosaic.TcCoe Idealize.SL.Sem Cert.MoE

variable (m : (ℓ : Loc nD τ sig) → Buf (Elt Ideal) ℓ) (ρ : Dev nD → PrngReg) (c : Dev nD)

/-! ## The arguments as functions of positions -/

def argX : FVec Ideal S2x2048x2048 .f32 := m ((c.tc : Thread nD τ).loc main_arg0)
def argG : FVec Ideal S16x2048 .f32 := m ((c.tc : Thread nD τ).loc main_arg1)
def argb : FVec Ideal S16 .f32 := m ((c.tc : Thread nD τ).loc main_arg2)
def argW : FVec Ideal S16x2048x2048 .f32 := m ((c.tc : Thread nD τ).loc main_arg3)
def argB : FVec Ideal S16x2048 .f32 := m ((c.tc : Thread nD τ).loc main_arg4)

def fX (r : Fin 4096) (k : Fin 2048) : EReal := shapeCast S4096x2048 (argX m c) shapeCasts_S2x2048x2048_S4096x2048 (ix2 r k)
def fG (l : Fin 16) (k : Fin 2048) : EReal := argG m c (ix2 l k)
def fb (l : Fin 16) : EReal := argb m c (ix1 l)
def fW (e : Fin 16) (d k : Fin 2048) : EReal := argW m c (ix3 e d k)
def fB (e : Fin 16) (d : Fin 2048) : EReal := argB m c (ix2 e d)

/-! ## What the regions find -/

theorem V1_tokens : xarr (V1 m ρ) c = shapeCast S4096x2048 (argX m c) shapeCasts_S2x2048x2048_S4096x2048 := by
  show StableHlo.after hostOps0 (W0 m ρ c) (Proc.devRef .tc main_v0) = _
  simp only [hostOps0]
  after_results_simp
  rfl

theorem V1_bias : barr (V1 m ρ) c = shapeCast S1x16 (argb m c) shapeCasts_S16_S1x16 := by
  show StableHlo.after hostOps0 (W0 m ρ c) (Proc.devRef .tc main_v1) = _
  simp only [hostOps0]
  after_results_simp
  rfl

theorem bias_row (v : FVec Ideal S16 .f32) (l : Fin 16) : shapeCast S1x16 v shapeCasts_S16_S1x16 (ix2 0 l) = v (ix1 l) := by
  pointwise

theorem V1_gate : garr (V1 m ρ) c = argG m c := W1_args m ρ c main_arg1 (by decide)

theorem zrow_eq (t : Fin 4096) : zrow (V1 m ρ) c t = logit (fX m c t) (fG m c) (fb m c) := by
  unfold zrow
  rw [V1_tokens, V1_bias, V1_gate]
  exact congrArg (fun f => logit (fX m c t) (fG m c) f) (funext fun l => bias_row _ l)

theorem notOut : ∀ a ∈ [main_v2_0, main_v2_1], ∀ w : Fin cfg1.W, Pipeline.arrRef spec1 w = a → (cfg1.win w).isOut = false :=
  ListAll.forall_mem_of_all_decide (by decide +kernel)

section finite

variable (hX : ∀ r k, Fin' (fX m c r k)) (hG : ∀ l k, Fin' (fG m c l k)) (hb : ∀ l, Fin' (fb m c l))
include hX hG hb

theorem zrow_fin (t : Fin 4096) (l : Fin 16) : Fin' (zrow (V1 m ρ) c t l) := by
  rw [zrow_eq]; exact logit_fin _ _ _ (hX t) hG hb l

omit hX hG hb in
theorem W2_probs : W2 m ρ c (Proc.devRef .tc main_v2_0) = fun j : S4096x16.Idx => probs (fX m c) (fG m c) (fb m c) (j 0) (j 1) := by
  refine (W2_arr m ρ c 3).trans ((final3 (V1 m ρ) c).trans ?_)
  funext j
  exact congrArg (fun z => prob z (j 1)) (zrow_eq m ρ c (j 0))

theorem W2_picks : W2 m ρ c (Proc.devRef .tc main_v2_1) = fun j : S4096x8.Idx => picks (fX m c) (fG m c) (fb m c) (j 0) (j 1) := by
  refine (W2_arr m ρ c 4).trans ((final4 (V1 m ρ) c (zrow_fin m ρ c hX hG hb)).trans ?_)
  funext j
  exact congrArg (fun z => BitVec.ofNat 32 (order (prob z) (place (j 1)) : ℕ)) (zrow_eq m ρ c (j 0))

theorem V2_weights : carr (V2 m ρ) c = fun j : S4096x16.Idx => weight (probs (fX m c) (fG m c) (fb m c) (j 0)) (j 1) := by
  refine (W2_arr m ρ c 5).trans ((final5 (V1 m ρ) c (zrow_fin m ρ c hX hG hb)).trans ?_)
  funext j
  exact congrArg (fun z => weight (prob z) (j 1)) (zrow_eq m ρ c (j 0))

omit hX hG hb in
theorem V2_tokens : tarr (V2 m ρ) c = fun j : S4096x2048.Idx => fX m c (j 0) (j 1) := by
  refine (W2_arr m ρ c 6).trans ((final6 (V1 m ρ) c).trans ?_)
  funext j
  rw [V1_tokens]
  exact congrArg _ (eq_ix2 j)

omit hX hG hb in
theorem V2_experts : warr (V2 m ρ) c = argW m c := W2_args m ρ c main_arg3 (by decide)
omit hX hG hb in
theorem V2_biases : earr (V2 m ρ) c = argB m c := W2_args m ρ c main_arg4 (by decide)

theorem W3_mixed : W3 m ρ c (Proc.devRef .tc main_v3) = fun j : S4096x2048.Idx => mixed (fX m c) (fG m c) (fb m c) (fW m c) (fB m c) (j 0) (j 1) := by
  refine (W3_arr m ρ c 4).trans ((final_experts (V2 m ρ) c).trans ?_)
  funext j
  refine Eq.trans ?_ (mixed_split (fX m c) (fG m c) (fb m c) (fW m c) (fB m c) hX hG hb (j 0) (j 1))
  unfold bias term
  rw [V2_weights m ρ c hX hG hb, V2_tokens, V2_experts, V2_biases]
  rfl

/-! ## The results at the return -/

theorem W4_mixed : W4 m ρ c (Proc.devRef .tc main_v4)
    = shapeCast S2x2048x2048 (fun j : S4096x2048.Idx => mixed (fX m c) (fG m c) (fb m c) (fW m c) (fB m c) (j 0) (j 1)) shapeCasts_S4096x2048_S2x2048x2048 := by
  have e : W4 m ρ c (Proc.devRef .tc main_v4)
      = shapeCast S2x2048x2048 (show FVec Ideal S4096x2048 .f32 from W3 m ρ c (Proc.devRef .tc main_v3)) shapeCasts_S4096x2048_S2x2048x2048 := by
    show StableHlo.after hostOps2 (W3 m ρ c) (Proc.devRef .tc main_v4) = _
    simp only [hostOps2]
    after_results_simp
    rfl
  exact e.trans (congrArg (fun v : FVec Ideal S4096x2048 .f32 => shapeCast S2x2048x2048 v shapeCasts_S4096x2048_S2x2048x2048) (W3_mixed m ρ c hX hG hb))

omit hX hG hb in
theorem W4_probs : W4 m ρ c (Proc.devRef .tc main_v2_0) = fun j : S4096x16.Idx => probs (fX m c) (fG m c) (fb m c) (j 0) (j 1) :=
  (W4_of m ρ c main_v2_0 (by decide)).trans ((W3_of m ρ c main_v2_0 (notOut main_v2_0 (by decide))).trans (W2_probs m ρ c))

theorem W4_picks : W4 m ρ c (Proc.devRef .tc main_v2_1) = fun j : S4096x8.Idx => picks (fX m c) (fG m c) (fb m c) (j 0) (j 1) :=
  (W4_of m ρ c main_v2_1 (by decide)).trans ((W3_of m ρ c main_v2_1 (notOut main_v2_1 (by decide))).trans (W2_picks m ρ c hX hG hb))

end finite

end Cert.KernelIdeal.Run

end
-- ==== Proof.Ideal.RefRows.lean ====
/- The reference's results entry by entry. -/
module

public import proofs.«01_k».proof.Proof.Gen.ReferenceIdeal.Run
public import proofs.«01_k».proof.Proof.Ideal.Outcome
public import Idealize.ShloMosaic.Lib.Pipeline.ValueKit
public import Idealize.ShloMosaic.Lib.Pointwise
public import Idealize.ShloMosaic.Lib.Routing.OpsPair

@[expose] public section

set_option maxRecDepth 16384

noncomputable section

namespace Cert.ReferenceIdeal.Value

open Idealize.ShloMosaic Idealize.SL.Sem Cert.ReferenceIdeal Cert.ReferenceIdeal.Gen Idealize.ShloMosaic.StableHlo Cert.MoE

/-! ## The softmax -/

theorem hostMax (v : FVec Ideal S4096x16 .f32) (r : Fin 4096)  :
    Host.reduce FloatOps.maximumf v (constant S_ .f32 0xFF800000#32) reducesTo_S4096x16_S4096_d1 h_S_ (ix1 r) = rowMax (fun k => v (ix2 r k)) := by
  pointwise
  rfl

theorem max_lowest (v : EReal) : max lowest v = v := by
  rw [lowest_eq]; exact bot_sup_eq v

theorem shifted_at (v : FVec Ideal S4096x16 .f32) (r : Fin 4096) (l : Fin 16) :
    Host.exp (subf v (broadcastInDim S4096x16 ![0, 1] bcast_S4096x1_S4096x16_0_1 (broadcastInDim S4096x1 ![0] bcast_S4096_S4096x1_0 (maximumf (broadcastInDim S4096 ![] bcast_S_S4096 (constant S_ .f32 0xFF800000#32)) (Host.reduce FloatOps.maximumf v (constant S_ .f32 0xFF800000#32) reducesTo_S4096x16_S4096_d1 h_S_))))) (ix2 r l)
      = Ideal.exp (v (ix2 r l) - rowMax (fun k => v (ix2 r k))) := by
  pointwise
  exact congrArg (fun m => Ideal.exp (v (ix2 r l) - m)) (max_lowest _)

theorem quot_at (v : FVec Ideal S4096x16 .f32) (r : Fin 4096) (l : Fin 16) :
    Host.divf v (broadcastInDim S4096x16 ![0, 1] bcast_S4096x1_S4096x16_0_1 (broadcastInDim S4096x1 ![0] bcast_S4096_S4096x1_0 (Host.reduceAdd v (constant S_ .f32 0x00000000#32) reducesTo_S4096x16_S4096_d1 h_S_))) (ix2 r l)
      = Ideal.div (v (ix2 r l)) (∑ k : Fin 16, v (ix2 r k)) := by
  pointwise

/-- A row's softmax, from the row's logits. -/
theorem softmax_at (V0 : Valuation τ sig (Elt Ideal)) (z : FVec Ideal S4096x16 .f32) (hz : z = res_main_v5 V0) (r : Fin 4096) (l : Fin 16) :
    (show FVec Ideal S4096x16 .f32 from res_main_v16 V0) (ix2 r l) = prob (fun k => z (ix2 r k)) l := by
  subst hz
  unfold res_main_v16
  refine (quot_at (res_main_v12 V0) r l).trans ?_
  have e : ∀ k : Fin 16, (res_main_v12 V0 : FVec Ideal S4096x16 .f32) (ix2 r k) = _ := fun k => shifted_at (res_main_v5 V0) r k
  exact congrArg₂ Ideal.div (e l) (Finset.sum_congr rfl fun k _ => e k)

/-! ## The eight chosen experts -/

theorem along_row (j : S4096x16.Idx) (h : 1 < S4096x16.rank) (k : Fin 16) : j.along ⟨1, h⟩ k = ix2 (j 0) k := by
  funext a
  match a with
  | ⟨0, _⟩ => rfl
  | ⟨1, _⟩ => rfl

theorem sort_at (v : FVec Ideal S4096x16 .f32) (w : IVec S4096x16 32) (j : S4096x16.Idx) :
    (Host.sort2 S4096x16 1 (fun l r => FloatOps.cmpfTotal (F := Ideal) (φ := .f32) .gt l.1 r.1) v w).1 j = v (ix2 (j 0) (order (fun k => v (ix2 (j 0) k)) (j 1)))
    ∧ (Host.sort2 S4096x16 1 (fun l r => FloatOps.cmpfTotal (F := Ideal) (φ := .f32) .gt l.1 r.1) v w).2 j = w (ix2 (j 0) (order (fun k => v (ix2 (j 0) k)) (j 1))) := by
  have hd : 1 < S4096x16.rank := by decide
  have key : (fun k k' : Fin 16 => FloatOps.cmpfTotal (F := Ideal) (φ := .f32) .gt (v (j.along ⟨1, hd⟩ k)) (v (j.along ⟨1, hd⟩ k')) == 1#1) = greater (fun k => v (ix2 (j 0) k)) :=
    funext fun k => funext fun k' => congrArg₂ (fun s t => FloatOps.cmpfTotal (F := Ideal) (φ := .f32) .gt (v s) (v t) == 1#1) (along_row j hd k) (along_row j hd k')
  have e : j.along ⟨1, hd⟩ (sortedFrom (fun k k' : Fin 16 => FloatOps.cmpfTotal (F := Ideal) (φ := .f32) .gt (v (j.along ⟨1, hd⟩ k)) (v (j.along ⟨1, hd⟩ k')) == 1#1) (j 1)) = ix2 (j 0) (order (fun k => v (ix2 (j 0) k)) (j 1)) :=
    (along_row j hd _).trans (congrArg (fun f => ix2 (j 0) (sortedFrom f (j 1))) key)
  unfold Host.sort2
  rw [dif_pos hd]
  exact ⟨congrArg v e, congrArg w e⟩

theorem topk_at (v : FVec Ideal S4096x16 .f32) (r : Fin 4096) (l : Fin 8) :
    (Host.topK S4096x8 1 (FloatOps.cmpfTotal (F := Ideal) (φ := .f32) .gt) v sliceFits_S4096x16_S4096x8).1 (ix2 r l) = v (ix2 r (order (fun k => v (ix2 r k)) (place l)))
    ∧ (Host.topK S4096x8 1 (FloatOps.cmpfTotal (F := Ideal) (φ := .f32) .gt) v sliceFits_S4096x16_S4096x8).2 (ix2 r l) = BitVec.ofNat 32 (order (fun k => v (ix2 r k)) (place l) : ℕ) := by
  have e : (fun a => ⟨0 + ((ix2 r l : S4096x8.Idx) (a.cast sliceFits_S4096x16_S4096x8.1.symm)).val, Nat.lt_of_lt_of_le (Nat.add_lt_add_left ((ix2 r l : S4096x8.Idx) _).isLt _) (sliceFits_S4096x16_S4096x8.2 a)⟩ : S4096x16.Idx) = ix2 r (place l) := by
    funext a
    match a with
    | ⟨0, _⟩ => exact Fin.ext (Nat.zero_add _)
    | ⟨1, _⟩ => exact Fin.ext (Nat.zero_add _)
  unfold Host.topK extractStridedSlice
  dsimp only
  rw [e, (sort_at v _ _).1, (sort_at v _ _).2]
  exact ⟨rfl, rfl⟩

/-! ## The combine weights -/

/-- The index table: a token's number beside each of its chosen experts. -/
def table (rows : IVec S4096x1 32) (inds : IVec S4096x8 32) : IVec S4096x8x2 32 :=
  concatenate S4096x8x2 2 [⟨S4096x8x1, (broadcastInDim S4096x8x1 ![0, 1] bcast_S4096x8_S4096x8x1_0_1 (broadcastInDim S4096x8 ![0, 1] bcast_S4096x1_S4096x8_0_1 (select (cmpi .slt rows (broadcastInDim S4096x1 ![] bcast_S_S4096x1 (constantI S_ 32 0#32))) (addi rows (broadcastInDim S4096x1 ![] bcast_S_S4096x1 (constantI S_ 32 4096#32))) rows)))⟩, ⟨S4096x8x1, (broadcastInDim S4096x8x1 ![0, 1] bcast_S4096x8_S4096x8x1_0_1 (select (cmpi .slt inds (broadcastInDim S4096x8 ![] bcast_S_S4096x8 (constantI S_ 32 0#32))) (addi inds (broadcastInDim S4096x8 ![] bcast_S_S4096x8 (constantI S_ 32 16#32))) inds))⟩] concatenates_S4096x8x1_S4096x8x1_S4096x8x2_d2

theorem table_row (rows : IVec S4096x1 32) (inds : IVec S4096x8 32) (r : Fin 4096) (l : Fin 8) (n : ℕ) (hn : n < 2 ^ 31) (h : rows (ix2 r 0) = BitVec.ofNat 32 n) :
    (table rows inds (ix3 r l 0)).toInt = n := by
  have e : table rows inds (ix3 r l 0) = Scalar.select (IntOp.cmpi CmpIPredicate.slt (rows (ix2 r 0)) 0#32) (IntOp.addi (rows (ix2 r 0)) 4096#32) (rows (ix2 r 0)) := by
    pointwise [table]
  have hN : (BitVec.ofNat 32 n).toNat = n := by rw [BitVec.toNat_ofNat]; exact Nat.mod_eq_of_lt (by omega)
  rw [e, h, Routing.wrap_of_lt _ _ (by rw [hN]; exact hn), BitVec.toInt_eq_toNat_of_lt (by rw [hN]; omega), hN]

theorem table_ind (rows : IVec S4096x1 32) (inds : IVec S4096x8 32) (r : Fin 4096) (l : Fin 8) (n : ℕ) (hn : n < 2 ^ 31) (h : inds (ix2 r l) = BitVec.ofNat 32 n) :
    (table rows inds (ix3 r l 1)).toInt = n := by
  have e : table rows inds (ix3 r l 1) = Scalar.select (IntOp.cmpi CmpIPredicate.slt (inds (ix2 r l)) 0#32) (IntOp.addi (inds (ix2 r l)) 16#32) (inds (ix2 r l)) := by
    pointwise [table]
  have hN : (BitVec.ofNat 32 n).toNat = n := by rw [BitVec.toNat_ofNat]; exact Nat.mod_eq_of_lt (by omega)
  rw [e, h, Routing.wrap_of_lt _ _ (by rw [hN]; exact hn), BitVec.toInt_eq_toNat_of_lt (by rw [hN]; omega), hN]

theorem share_at (v : FVec Ideal S4096x8 .f32) (r : Fin 4096) (l : Fin 8) :
    Host.divf v (broadcastInDim S4096x8 ![0, 1] bcast_S4096x1_S4096x8_0_1 (broadcastInDim S4096x1 ![0] bcast_S4096_S4096x1_0 (Host.reduceAdd v (constant S_ .f32 0x00000000#32) reducesTo_S4096x8_S4096_d1 h_S_))) (ix2 r l)
      = Ideal.div (v (ix2 r l)) (∑ k : Fin 8, v (ix2 r k)) := by
  pointwise

theorem rows_at (V0 : Valuation τ sig (Elt Ideal)) (r : Fin 4096) : (show IVec S4096x1 32 from res_main_v23 V0) (ix2 r 0) = BitVec.ofNat 32 r := by
  pointwise [res_main_v23]

theorem zeros_at (i : S4096x16.Idx) : (broadcastInDim S4096x16 ![] bcast_S_S4096x16 (constant S_ .f32 0x00000000#32) : FVec Ideal S4096x16 .f32) i = 0 := by
  rw [eq_ix2 i]
  pointwise

/-- A sum of single updates that land at known places. -/
theorem scattered (x : FVec Ideal S4096x16 .f32) (idx : IVec S4096x8x2 32) (u : FVec Ideal S4096x8 .f32) (σ : Fin 4096 → Fin 8 → Fin 16)
    (h0 : ∀ r j, (idx (ix3 r j 0)).toInt = (r : ℕ)) (h1 : ∀ r j, (idx (ix3 r j 1)).toInt = (σ r j : ℕ)) (r : Fin 4096) (l : Fin 16) :
    Host.scatterAdd scatter_S4096x16_S4096x8x2_S4096x8_n_01_01_2 x idx u (ix2 r l) = x (ix2 r l) + ∑ j : Fin 8, if σ r j = l then u (ix2 r j) else 0 := by
  refine Ideal.add_congr rfl ?_
  rw [Finset.sum_filter]
  refine (ValueIdx.sum_idx2 _).trans ?_
  rw [Finset.sum_eq_single r]
  · refine Finset.sum_congr rfl fun j _ => ?_
    refine if_congr ?_ rfl rfl
    refine (Routing.scatter_lands2 (R := 4096) (C := 16) (A := 4096) (B := 8) _ rfl rfl rfl idx r j r l).trans ?_
    constructor
    · rintro ⟨-, h⟩; exact Fin.ext (by exact_mod_cast (h1 r j).symm.trans h)
    · rintro h; exact ⟨h0 r j, (h1 r j).trans (by rw [h])⟩
  · intro b _ hb
    refine Finset.sum_eq_zero fun j _ => if_neg fun h => hb ?_
    have := ((Routing.scatter_lands2 (R := 4096) (C := 16) (A := 4096) (B := 8) _ rfl rfl rfl idx b j r l).mp h).1
    exact Fin.ext (by exact_mod_cast (h0 b j).symm.trans this)
  · intro h; exact absurd (Finset.mem_univ _) h

/-- The combine weights, from positive probabilities. -/
theorem combine_at (V0 : Valuation τ sig (Elt Ideal)) (p : FVec Ideal S4096x16 .f32) (hp : p = res_main_v16 V0)
    (hpos : ∀ r l, ∃ q : ℝ, 0 < q ∧ p (ix2 r l) = (q : EReal)) (r : Fin 4096) (l : Fin 16) :
    (show FVec Ideal S4096x16 .f32 from res_main_v38 V0) (ix2 r l) = weight (fun k => p (ix2 r k)) l := by
  subst hp
  have hv : ∀ r j, (res_main_values V0 : FVec Ideal S4096x8 .f32) (ix2 r j) = _ := fun r j => (topk_at (res_main_v16 V0) r j).1
  have hi : ∀ r j, (res_main_indices V0 : IVec S4096x8 32) (ix2 r j) = _ := fun r j => (topk_at (res_main_v16 V0) r j).2
  unfold res_main_v38
  refine (scattered _ (table (res_main_v23 V0) (res_main_indices V0)) _
    (fun r j => order (fun k => (res_main_v16 V0 : FVec Ideal S4096x16 .f32) (ix2 r k)) (place j))
    (fun r j => table_row _ _ r j r (by have := r.isLt; omega) (rows_at V0 r))
    (fun r j => table_ind _ _ r j _ (by have := (order (fun k => (res_main_v16 V0 : FVec Ideal S4096x16 .f32) (ix2 r k)) (place j)).isLt; omega) (hi r j)) r l).trans ?_
  rw [zeros_at, zero_add, ← scattered_weight _ (hpos r)]
  refine Finset.sum_congr rfl fun j _ => if_congr Iff.rfl ?_ rfl
  refine (share_at (res_main_values V0) r j).trans ?_
  exact congrArg₂ Ideal.div (hv r j) (Finset.sum_congr rfl fun k _ => hv r k)

/-! ## The logits and the experts -/

theorem tokens_at (V0 : Valuation τ sig (Elt Ideal)) (x : FVec Ideal S2x2048x2048 .f32) (hx : x = V0 (Proc.devRef .tc main_arg0)) (r : Fin 4096) (k : Fin 2048) :
    (show FVec Ideal S4096x2048 .f32 from res_main_v0 V0) (ix2 r k) = (shapeCast S4096x2048 x shapeCasts_S2x2048x2048_S4096x2048) (ix2 r k) := by
  subst hx
  rfl

theorem logits_at (V0 : Valuation τ sig (Elt Ideal)) (X : FVec Ideal S4096x2048 .f32) (G : FVec Ideal S16x2048 .f32) (b : FVec Ideal S16 .f32)
    (hX : X = res_main_v0 V0) (hG : G = V0 (Proc.devRef .tc main_arg1)) (hb : b = V0 (Proc.devRef .tc main_arg2)) (r : Fin 4096) (l : Fin 16) :
    (show FVec Ideal S4096x16 .f32 from res_main_v5 V0) (ix2 r l) = logit (fun k => X (ix2 r k)) (fun l k => G (ix2 l k)) (fun l => b (ix1 l)) l := by
  subst hX hG hb
  pointwise [res_main_v5]
  rfl

variable (X : FVec Ideal S4096x2048 .f32) (W : FVec Ideal S16x2048x2048 .f32) (B : FVec Ideal S16x2048 .f32) (C : FVec Ideal S4096x16 .f32)

/-- Expert `e`'s weighted output. -/
def share (r : Fin 4096) (d : Fin 2048) (e : Fin 16) : EReal := (∑ k, X (ix2 r k) * W (ix3 e d k) + B (ix2 e d)) * C (ix2 r e)

theorem first_at (V0 : Valuation τ sig (Elt Ideal)) (hX : X = res_main_v0 V0) (hW : W = V0 (Proc.devRef .tc main_arg3)) (hB : B = V0 (Proc.devRef .tc main_arg4))
    (hC : C = res_main_v38 V0) (r : Fin 4096) (d : Fin 2048) :
    (show FVec Ideal S4096x2048 .f32 from res_main_v117 V0) (ix2 r d) = share X W B C r d 0 + share X W B C r d 1 + share X W B C r d 2 + share X W B C r d 3
      + share X W B C r d 4 + share X W B C r d 5 := by
  subst hX hW hB hC
  pointwise [res_main_v117]
  rfl

theorem second_at (V0 : Valuation τ sig (Elt Ideal)) (P : FVec Ideal S4096x2048 .f32) (hP : P = res_main_v117 V0) (hX : X = res_main_v0 V0) (hW : W = V0 (Proc.devRef .tc main_arg3)) (hB : B = V0 (Proc.devRef .tc main_arg4))
    (hC : C = res_main_v38 V0) (r : Fin 4096) (d : Fin 2048) :
    (show FVec Ideal S4096x2048 .f32 from res_main_v195 V0) (ix2 r d) = P (ix2 r d) + share X W B C r d 6 + share X W B C r d 7 + share X W B C r d 8 + share X W B C r d 9
      + share X W B C r d 10 + share X W B C r d 11 := by
  subst hX hW hB hC hP
  pointwise [res_main_v195]
  rfl

theorem sum_sixteen (f : Fin 16 → EReal) : f 0 + f 1 + f 2 + f 3 + f 4 + f 5 + f 6 + f 7 + f 8 + f 9 + f 10 + f 11 + f 12 + f 13 + f 14 + f 15 = ∑ e, f e := by
  simp only [Fin.sum_univ_castSucc, Finset.univ_eq_empty, Finset.sum_empty, zero_add]
  rfl

/-- The last four experts added. -/
def lastFour (P X : FVec Ideal S4096x2048 .f32) (W : FVec Ideal S16x2048x2048 .f32) (B : FVec Ideal S16x2048 .f32) (C : FVec Ideal S4096x16 .f32) : FVec Ideal S4096x2048 .f32 :=
  addf (addf (addf (addf P (mulf (addf (Host.dotGeneral dot_S4096x2048_S2048x2048_S4096x2048_1_0_0_1_n_n none X (transpose S2048x2048 [1, 0] (shapeCast _ (extractStridedSlice S1x2048x2048 ![12, 0, 0] W slices_S16x2048x2048_S1x2048x2048_12_0_0) shapeCasts_S1x2048x2048_S2048x2048) transposes_S2048x2048_S2048x2048_1_0)) (broadcastInDim S4096x2048 ![0, 1] bcast_S1x2048_S4096x2048_0_1 (broadcastInDim S1x2048 ![1] bcast_S2048_S1x2048_1 (shapeCast _ (extractStridedSlice S1x2048 ![12, 0] B slices_S16x2048_S1x2048_12_0) shapeCasts_S1x2048_S2048)))) (broadcastInDim S4096x2048 ![0, 1] bcast_S4096x1_S4096x2048_0_1 (extractStridedSlice S4096x1 ![0, 12] C slices_S4096x16_S4096x1_0_12)))) (mulf (addf (Host.dotGeneral dot_S4096x2048_S2048x2048_S4096x2048_1_0_0_1_n_n none X (transpose S2048x2048 [1, 0] (shapeCast _ (extractStridedSlice S1x2048x2048 ![13, 0, 0] W slices_S16x2048x2048_S1x2048x2048_13_0_0) shapeCasts_S1x2048x2048_S2048x2048) transposes_S2048x2048_S2048x2048_1_0)) (broadcastInDim S4096x2048 ![0, 1] bcast_S1x2048_S4096x2048_0_1 (broadcastInDim S1x2048 ![1] bcast_S2048_S1x2048_1 (shapeCast _ (extractStridedSlice S1x2048 ![13, 0] B slices_S16x2048_S1x2048_13_0) shapeCasts_S1x2048_S2048)))) (broadcastInDim S4096x2048 ![0, 1] bcast_S4096x1_S4096x2048_0_1 (extractStridedSlice S4096x1 ![0, 13] C slices_S4096x16_S4096x1_0_13)))) (mulf (addf (Host.dotGeneral dot_S4096x2048_S2048x2048_S4096x2048_1_0_0_1_n_n none X (transpose S2048x2048 [1, 0] (shapeCast _ (extractStridedSlice S1x2048x2048 ![14, 0, 0] W slices_S16x2048x2048_S1x2048x2048_14_0_0) shapeCasts_S1x2048x2048_S2048x2048) transposes_S2048x2048_S2048x2048_1_0)) (broadcastInDim S4096x2048 ![0, 1] bcast_S1x2048_S4096x2048_0_1 (broadcastInDim S1x2048 ![1] bcast_S2048_S1x2048_1 (shapeCast _ (extractStridedSlice S1x2048 ![14, 0] B slices_S16x2048_S1x2048_14_0) shapeCasts_S1x2048_S2048)))) (broadcastInDim S4096x2048 ![0, 1] bcast_S4096x1_S4096x2048_0_1 (extractStridedSlice S4096x1 ![0, 14] C slices_S4096x16_S4096x1_0_14)))) (mulf (addf (Host.dotGeneral dot_S4096x2048_S2048x2048_S4096x2048_1_0_0_1_n_n none X (transpose S2048x2048 [1, 0] (shapeCast _ (extractStridedSlice S1x2048x2048 ![15, 0, 0] W slices_S16x2048x2048_S1x2048x2048_15_0_0) shapeCasts_S1x2048x2048_S2048x2048) transposes_S2048x2048_S2048x2048_1_0)) (broadcastInDim S4096x2048 ![0, 1] bcast_S1x2048_S4096x2048_0_1 (broadcastInDim S1x2048 ![1] bcast_S2048_S1x2048_1 (shapeCast _ (extractStridedSlice S1x2048 ![15, 0] B slices_S16x2048_S1x2048_15_0) shapeCasts_S1x2048_S2048)))) (broadcastInDim S4096x2048 ![0, 1] bcast_S4096x1_S4096x2048_0_1 (extractStridedSlice S4096x1 ![0, 15] C slices_S4096x16_S4096x1_0_15)))

theorem lastFour_at (P : FVec Ideal S4096x2048 .f32) (r : Fin 4096) (d : Fin 2048) :
    lastFour P X W B C (ix2 r d) = P (ix2 r d) + share X W B C r d 12 + share X W B C r d 13 + share X W B C r d 14 + share X W B C r d 15 := by
  pointwise [lastFour]
  rfl

/-- The sum the last result is a reshape of. -/
def lastSum (V0 : Valuation τ sig (Elt Ideal)) : FVec Ideal S4096x2048 .f32 :=
  lastFour (res_main_v195 V0) (res_main_v0 V0) (V0 (Proc.devRef .tc main_arg3)) (V0 (Proc.devRef .tc main_arg4)) (res_main_v38 V0)

theorem last_at (V0 : Valuation τ sig (Elt Ideal)) (hX : X = res_main_v0 V0) (hW : W = V0 (Proc.devRef .tc main_arg3)) (hB : B = V0 (Proc.devRef .tc main_arg4))
    (hC : C = res_main_v38 V0) (r : Fin 4096) (d : Fin 2048) :
    lastSum V0 (ix2 r d) = ∑ e, share X W B C r d e := by
  have h : lastSum V0 (ix2 r d) = (show FVec Ideal S4096x2048 .f32 from res_main_v195 V0) (ix2 r d) + share X W B C r d 12 + share X W B C r d 13 + share X W B C r d 14 + share X W B C r d 15 := by
    subst hX hW hB hC
    exact lastFour_at _ _ _ _ _ r d
  refine h.trans ?_
  rw [← sum_sixteen]
  refine Ideal.add_congr (Ideal.add_congr (Ideal.add_congr (Ideal.add_congr ?_ rfl) rfl) rfl) rfl
  refine (second_at X W B C V0 _ rfl hX hW hB hC r d).trans ?_
  refine Ideal.add_congr (Ideal.add_congr (Ideal.add_congr (Ideal.add_congr (Ideal.add_congr (Ideal.add_congr ?_ rfl) rfl) rfl) rfl) rfl) rfl
  exact first_at X W B C V0 hX hW hB hC r d

/-! ## The three results -/

section results

variable (V0 : Valuation τ sig (Elt Ideal)) (X : Fin 4096 → Fin 2048 → EReal) (G : Fin 16 → Fin 2048 → EReal) (b : Fin 16 → EReal)
  (W : Fin 16 → Fin 2048 → Fin 2048 → EReal) (B : Fin 16 → Fin 2048 → EReal)
  (hX : ∀ r k, (show FVec Ideal S4096x2048 .f32 from res_main_v0 V0) (ix2 r k) = X r k)
  (hG : ∀ l k, (show FVec Ideal S16x2048 .f32 from V0 (Proc.devRef .tc main_arg1)) (ix2 l k) = G l k)
  (hb : ∀ l, (show FVec Ideal S16 .f32 from V0 (Proc.devRef .tc main_arg2)) (ix1 l) = b l)
  (hW : ∀ e d k, (show FVec Ideal S16x2048x2048 .f32 from V0 (Proc.devRef .tc main_arg3)) (ix3 e d k) = W e d k)
  (hB : ∀ e d, (show FVec Ideal S16x2048 .f32 from V0 (Proc.devRef .tc main_arg4)) (ix2 e d) = B e d)

include hX hG hb

theorem probs_row (r : Fin 4096) : (fun k => (show FVec Ideal S4096x16 .f32 from res_main_v16 V0) (ix2 r k)) = probs X G b r := by
  funext l
  refine (softmax_at V0 _ rfl r l).trans ?_
  refine congrArg (fun z => prob z l) ?_
  funext k
  refine (logits_at V0 _ _ _ rfl rfl rfl r k).trans ?_
  exact congrArg₂ (fun a c => logit a c _ k) (funext fun i => hX r i) (funext fun l => funext fun i => hG l i) |>.trans
    (congrArg (fun c => logit (X r) G c k) (funext hb))

theorem result_probs : (show FVec Ideal S4096x16 .f32 from res_main_v16 V0) = fun j => probs X G b (j 0) (j 1) := by
  funext j
  exact (congrArg _ (eq_ix2 j)).trans (congrFun (probs_row V0 X G b hX hG hb (j 0)) (j 1))

theorem result_picks : (show IVec S4096x8 32 from res_main_indices V0) = fun j => picks X G b (j 0) (j 1) := by
  funext j
  refine (congrArg _ (eq_ix2 j)).trans ((topk_at (res_main_v16 V0) (j 0) (j 1)).2.trans ?_)
  exact congrArg (fun p => BitVec.ofNat 32 (order p (place (j 1)) : ℕ)) (probs_row V0 X G b hX hG hb (j 0))

include hW hB

theorem result_mixed (fX : ∀ r k, Fin' (X r k)) (fG : ∀ l k, Fin' (G l k)) (fb : ∀ l, Fin' (b l)) : lastSum V0 = fun j => mixed X G b W B (j 0) (j 1) := by
  funext j
  refine (congrArg _ (eq_ix2 j)).trans ((last_at _ _ _ _ V0 rfl rfl rfl rfl (j 0) (j 1)).trans ?_)
  unfold mixed
  refine Finset.sum_congr rfl fun e _ => ?_
  unfold share
  refine Ideal.mul_congr (Ideal.add_congr (Finset.sum_congr rfl fun k _ => Ideal.mul_congr (hX _ _) (hW _ _ _)) (hB _ _)) ?_
  have hrow : ∀ r l, (show FVec Ideal S4096x16 .f32 from res_main_v16 V0) (ix2 r l) = probs X G b r l := fun r l => congrFun (probs_row V0 X G b hX hG hb r) l
  refine (combine_at V0 _ rfl (fun r l => ?_) (j 0) e).trans (congrArg (fun p => weight p e) (probs_row V0 X G b hX hG hb (j 0)))
  obtain ⟨q, hq, h⟩ := prob_pos (logit (X r) G b) (fun l => logit_fin _ _ _ (fX r) fG fb l) l
  exact ⟨q, hq, (hrow r l).trans h⟩

end results

end Cert.ReferenceIdeal.Value

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite_router_inputs
public import proofs.«01_k».proof.Proof.Bits.Whole
public import proofs.«01_k».proof.Proof.Ideal.Results
public import proofs.«01_k».proof.Proof.Ideal.RefRows
public import Idealize.ShloMosaic.Adequacy
public import Idealize.ShloMosaic.Init

@[expose] public section

set_option maxRecDepth 16384

noncomputable section

namespace Cert.Proof

open Idealize.ShloMosaic Idealize.SL.Sem Cert.MoE

/-! ## The precondition -/

/-- The bound the precondition compares with is infinite. -/
theorem bound_eq : Ideal.ofBits .f32 0x7F800000#32 = ⊤ := by
  simp [Ideal.ofBits, Ideal.ieee]

/-- An entry whose magnitude is below the bound is a real number. -/
theorem fin_of_lt (x : EReal) (h : FloatOps.cmpf (F := Ideal) (φ := .f32) .olt (max x (-x)) (Ideal.ofBits .f32 0x7F800000#32) = 1#1) : Fin' x := by
  rw [bound_eq] at h
  have hlt : max x (-x) < ⊤ := by
    by_contra hn
    have : FloatOps.cmpf (F := Ideal) (φ := .f32) .olt (max x (-x)) ⊤ = 0#1 := by
      show BitVec.ofBool (decide (max x (-x) < ⊤)) = 0#1
      rw [decide_eq_false hn]; rfl
    rw [this] at h
    exact absurd h (by decide)
  induction x using EReal.rec with
  | bot => exact absurd hlt (by simp)
  | coe r => exact ⟨r, rfl⟩
  | top => exact absurd hlt (by simp)

section pre

open Cert.Pre_finite_router_inputs Cert.Pre_finite_router_inputs.Gen

variable (x : FVec Ideal S2x2048x2048 .f32) (g : FVec Ideal S16x2048 .f32) (b : FVec Ideal S16 .f32) (w : FVec Ideal S16x2048x2048 .f32) (e : FVec Ideal S16x2048 .f32)

theorem pre_x (h : (fn (F := Ideal) x g b w e).1 = fun _ => 1#1) (i : S2x2048x2048.Idx) : Fin' (x i) :=
  fin_of_lt (x i) (congrFun h i)
theorem pre_g (h : (fn (F := Ideal) x g b w e).2.1 = fun _ => 1#1) (i : S16x2048.Idx) : Fin' (g i) :=
  fin_of_lt (g i) (congrFun h i)
theorem pre_b (h : (fn (F := Ideal) x g b w e).2.2 = fun _ => 1#1) (i : S16.Idx) : Fin' (b i) :=
  fin_of_lt (b i) (congrFun h i)

end pre

/-! ## The frames -/

section reference

open Cert.ReferenceIdeal

theorem no_counter : ∀ s : SemLoc sig, False := by decide

theorem reference_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => (h c).2.2.2, funext fun s => (no_counter s.2).elim⟩) (Cert.ReferenceIdeal.Value.run m g)

end reference

/-! ## The results -/

set_option maxHeartbeats 1000000 in
/-- The kernel's three results are the reference's, for finite tokens, gate weights and gate biases. -/
theorem equal_results : Cert.algebraic_KernelIdeal_ReferenceIdeal_pre_finite_router_inputs := by
  intro m g m' g' hpre hargs
  have hX : ∀ c r k, Fin' (Cert.KernelIdeal.Run.fX m c r k) := fun c r k => pre_x _ _ _ _ _ (hpre c).1 _
  have hG : ∀ c l k, Fin' (Cert.KernelIdeal.Run.fG m c l k) := fun c l k => pre_g _ _ _ _ _ (hpre c).2.1 _
  have hb : ∀ c l, Fin' (Cert.KernelIdeal.Run.fb m c l) := fun c l => pre_b _ _ _ _ _ (hpre c).2.2 _
  refine ⟨_, _, _,
    (θ_run _ _ _).mono (fun r h c =>
      ⟨(h.1 c _ (Cert.KernelIdeal.Run.mem_uc Cert.KernelIdeal.main_v4 (by decide))).trans (Cert.KernelIdeal.Run.W4_mixed m g c (hX c) (hG c) (hb c)),
       (h.1 c _ (Cert.KernelIdeal.Run.mem_uc Cert.KernelIdeal.main_v2_1 (by decide))).trans (Cert.KernelIdeal.Run.W4_picks m g c (hX c) (hG c) (hb c)),
       (h.1 c _ (Cert.KernelIdeal.Run.mem_uc Cert.KernelIdeal.main_v2_0 (by decide))).trans (Cert.KernelIdeal.Run.W4_probs m g c),
       Cert.KernelIdeal.Run.run_arg m g (h.1 c) Cert.KernelIdeal.main_arg0 (by decide) (by decide),
       Cert.KernelIdeal.Run.run_arg m g (h.1 c) Cert.KernelIdeal.main_arg1 (by decide) (by decide),
       Cert.KernelIdeal.Run.run_arg m g (h.1 c) Cert.KernelIdeal.main_arg2 (by decide) (by decide),
       Cert.KernelIdeal.Run.run_arg m g (h.1 c) Cert.KernelIdeal.main_arg3 (by decide) (by decide),
       Cert.KernelIdeal.Run.run_arg m g (h.1 c) Cert.KernelIdeal.main_arg4 (by decide) (by decide)⟩) (Cert.KernelIdeal.Run.run_all m g),
    (θ_run _ _ _).mono (fun r h c => ?_) (Cert.ReferenceIdeal.Value.run m' g')⟩
  obtain ⟨h0, h1, h2, hrest⟩ := h c
  obtain ⟨a0, a1, a2, a3, a4⟩ := hargs c
  have eX : ∀ r k, (show FVec Ideal Cert.ReferenceIdeal.S4096x2048 .f32 from Cert.ReferenceIdeal.Value.res_main_v0 (StableHlo.launchContents m' c)) (ix2 r k) = Cert.KernelIdeal.Run.fX m c r k :=
    fun r k => Cert.ReferenceIdeal.Value.tokens_at (StableHlo.launchContents m' c) (Cert.KernelIdeal.Run.argX m c) a0.symm r k
  have eG : ∀ l k, (show FVec Ideal Cert.ReferenceIdeal.S16x2048 .f32 from StableHlo.launchContents m' c (Proc.devRef .tc Cert.ReferenceIdeal.main_arg1)) (ix2 l k) = Cert.KernelIdeal.Run.fG m c l k :=
    fun l k => congrFun a1 (ix2 l k)
  have eb : ∀ l, (show FVec Ideal Cert.ReferenceIdeal.S16 .f32 from StableHlo.launchContents m' c (Proc.devRef .tc Cert.ReferenceIdeal.main_arg2)) (ix1 l) = Cert.KernelIdeal.Run.fb m c l :=
    fun l => congrFun a2 (ix1 l)
  have eW : ∀ e d k, (show FVec Ideal Cert.ReferenceIdeal.S16x2048x2048 .f32 from StableHlo.launchContents m' c (Proc.devRef .tc Cert.ReferenceIdeal.main_arg3)) (ix3 e d k) = Cert.KernelIdeal.Run.fW m c e d k :=
    fun e d k => congrFun a3 (ix3 e d k)
  have eB : ∀ e d, (show FVec Ideal Cert.ReferenceIdeal.S16x2048 .f32 from StableHlo.launchContents m' c (Proc.devRef .tc Cert.ReferenceIdeal.main_arg4)) (ix2 e d) = Cert.KernelIdeal.Run.fB m c e d :=
    fun e d => congrFun a4 (ix2 e d)
  refine ⟨h0.trans ?_, h1.trans ?_, h2.trans ?_, hrest⟩
  · exact congrArg (fun v : FVec Ideal Cert.ReferenceIdeal.S4096x2048 .f32 => shapeCast Cert.ReferenceIdeal.S2x2048x2048 v Cert.ReferenceIdeal.Gen.shapeCasts_S4096x2048_S2x2048x2048)
      (Cert.ReferenceIdeal.Value.result_mixed (StableHlo.launchContents m' c) _ _ _ _ _ eX eG eb eW eB (hX c) (hG c) (hb c))
  · exact Cert.ReferenceIdeal.Value.result_picks (StableHlo.launchContents m' c) _ _ _ eX eG eb
  · exact Cert.ReferenceIdeal.Value.result_probs (StableHlo.launchContents m' c) _ _ _ eX eG eb

theorem claim : Cert.Claim := ⟨Cert.Kernel.Gen.facts, Cert.KernelIdeal.Gen.facts, Cert.ReferenceIdeal.Gen.facts, Cert.Pre_finite_router_inputs.Gen.facts,
  fun m g _ => Cert.Kernel.Run.frame m g, fun m g _ => Cert.KernelIdeal.Run.frame m g, fun m g _ => Cert.KernelIdeal.Run.frame m g,
  fun m g _ => reference_frame m g, fun m g _ => reference_frame m g, trivial, equal_results⟩

end Cert.Proof

end
